-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x512 : Shape := ⟨2, ![512, 512]⟩
abbrev S5x8 : Shape := ⟨2, ![5, 8]⟩
abbrev S_ : Shape := ⟨0, ![]⟩
abbrev S4 : Shape := ⟨1, ![4]⟩
abbrev S1x1 : Shape := ⟨2, ![1, 1]⟩
abbrev S64x512 : Shape := ⟨2, ![64, 512]⟩
abbrev S1 : Shape := ⟨1, ![1]⟩
abbrev S32x512 : Shape := ⟨2, ![32, 512]⟩

abbrev nBuf : Space → Nat
  | .hbm => 2
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v24 : BitVec 32 := Scalar.muli v13 c512_i32
  let c0_i32 : BitVec 32 := 0#32
  ![v24.toNat, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v27 : BitVec 32 := Scalar.muli v2 c4_i32_15
  let v28 : BitVec 32 := Scalar.addi c0_i32_16 v27
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_17 : BitVec 32 := 2#32
  let v29 : BitVec 32 := Scalar.muli v9 c2_i32_17
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v31 : BitVec 32 := Scalar.muli v8 c1_i32_18
  let v32 : BitVec 32 := Scalar.addi v30 v31
  v32.toNat
def k0_dev2 (d0 : Dev nD) : Nat :=
  let c0_i32_21 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_20 : BitVec 32 := 4#32
  let v33 : BitVec 32 := Scalar.muli v10 c4_i32_20
  let v34 : BitVec 32 := Scalar.addi c0_i32_21 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v35 : BitVec 32 := Scalar.muli v5 c2_i32_22
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v37 : BitVec 32 := Scalar.muli v8 c1_i32_23
  let v38 : BitVec 32 := Scalar.addi v36 v37
  v38.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v39 : BitVec 32 := Scalar.muli v2 c4_i32_25
  let v40 : BitVec 32 := Scalar.addi c0_i32_26 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v41 : BitVec 32 := Scalar.muli v5 c2_i32_27
  let v42 : BitVec 32 := Scalar.addi v40 v41
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_28 : BitVec 32 := 1#32
  let v43 : BitVec 32 := Scalar.muli v11 c1_i32_28
  let v44 : BitVec 32 := Scalar.addi v42 v43
  v44.toNat
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v51 : BitVec 32 := Scalar.muli v2 c4_i32_37
  let v52 : BitVec 32 := Scalar.addi c0_i32_38 v51
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_39 : BitVec 32 := 2#32
  let v53 : BitVec 32 := Scalar.muli v9 c2_i32_39
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v55 : BitVec 32 := Scalar.muli v8 c1_i32_40
  let v56 : BitVec 32 := Scalar.addi v54 v55
  v56.toNat
def k0_dev5 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v63 : BitVec 32 := Scalar.muli v2 c4_i32_49
  let v64 : BitVec 32 := Scalar.addi c0_i32_50 v63
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v65 : BitVec 32 := Scalar.muli v9 c2_i32_51
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v67 : BitVec 32 := Scalar.muli v8 c1_i32_52
  let v68 : BitVec 32 := Scalar.addi v66 v67
  v68.toNat
def k0_dev6 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v75 : BitVec 32 := Scalar.muli v2 c4_i32_60
  let v76 : BitVec 32 := Scalar.addi c0_i32_61 v75
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_62 : BitVec 32 := 2#32
  let v77 : BitVec 32 := Scalar.muli v9 c2_i32_62
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v79 : BitVec 32 := Scalar.muli v8 c1_i32_63
  let v80 : BitVec 32 := Scalar.addi v78 v79
  v80.toNat
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v87 : BitVec 32 := Scalar.muli v2 c4_i32_71
  let v88 : BitVec 32 := Scalar.addi c0_i32_72 v87
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_73 : BitVec 32 := 2#32
  let v89 : BitVec 32 := Scalar.muli v9 c2_i32_73
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v91 : BitVec 32 := Scalar.muli v8 c1_i32_74
  let v92 : BitVec 32 := Scalar.addi v90 v91
  v92.toNat
def k0_dev8 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_82 : BitVec 32 := 4#32
  let v99 : BitVec 32 := Scalar.muli v2 c4_i32_82
  let v100 : BitVec 32 := Scalar.addi c0_i32_83 v99
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_84 : BitVec 32 := 2#32
  let v101 : BitVec 32 := Scalar.muli v9 c2_i32_84
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_85 : BitVec 32 := 1#32
  let v103 : BitVec 32 := Scalar.muli v8 c1_i32_85
  let v104 : BitVec 32 := Scalar.addi v102 v103
  v104.toNat
def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v111 : BitVec 32 := Scalar.muli v2 c4_i32_92
  let v112 : BitVec 32 := Scalar.addi c0_i32_93 v111
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_94 : BitVec 32 := 2#32
  let v113 : BitVec 32 := Scalar.muli v9 c2_i32_94
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v115 : BitVec 32 := Scalar.muli v8 c1_i32_95
  let v116 : BitVec 32 := Scalar.addi v114 v115
  v116.toNat
def k0_dev10 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v123 : BitVec 32 := Scalar.muli v2 c4_i32_102
  let v124 : BitVec 32 := Scalar.addi c0_i32_103 v123
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_104 : BitVec 32 := 2#32
  let v125 : BitVec 32 := Scalar.muli v9 c2_i32_104
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v127 : BitVec 32 := Scalar.muli v8 c1_i32_105
  let v128 : BitVec 32 := Scalar.addi v126 v127
  v128.toNat
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v135 : BitVec 32 := Scalar.muli v2 c4_i32_112
  let v136 : BitVec 32 := Scalar.addi c0_i32_113 v135
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_114 : BitVec 32 := 2#32
  let v137 : BitVec 32 := Scalar.muli v9 c2_i32_114
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v139 : BitVec 32 := Scalar.muli v8 c1_i32_115
  let v140 : BitVec 32 := Scalar.addi v138 v139
  v140.toNat
def k0_dev12 (d0 : Dev nD) : Nat :=
  let c0_i32_142 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_141 : BitVec 32 := 4#32
  let v163 : BitVec 32 := Scalar.muli v10 c4_i32_141
  let v164 : BitVec 32 := Scalar.addi c0_i32_142 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v165 : BitVec 32 := Scalar.muli v5 c2_i32_143
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v167 : BitVec 32 := Scalar.muli v8 c1_i32_144
  let v168 : BitVec 32 := Scalar.addi v166 v167
  v168.toNat
def k0_dev13 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v175 : BitVec 32 := Scalar.muli v2 c4_i32_153
  let v176 : BitVec 32 := Scalar.addi c0_i32_154 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v177 : BitVec 32 := Scalar.muli v5 c2_i32_155
  let v178 : BitVec 32 := Scalar.addi v176 v177
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_156 : BitVec 32 := 1#32
  let v179 : BitVec 32 := Scalar.muli v11 c1_i32_156
  let v180 : BitVec 32 := Scalar.addi v178 v179
  v180.toNat
def k0_dev14 (d0 : Dev nD) : Nat :=
  let c0_i32_183 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_182 : BitVec 32 := 4#32
  let v203 : BitVec 32 := Scalar.muli v10 c4_i32_182
  let v204 : BitVec 32 := Scalar.addi c0_i32_183 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_184 : BitVec 32 := 2#32
  let v205 : BitVec 32 := Scalar.muli v5 c2_i32_184
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_185 : BitVec 32 := 1#32
  let v207 : BitVec 32 := Scalar.muli v8 c1_i32_185
  let v208 : BitVec 32 := Scalar.addi v206 v207
  v208.toNat
def k0_dev15 (d0 : Dev nD) : Nat :=
  let c0_i32_195 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_194 : BitVec 32 := 4#32
  let v215 : BitVec 32 := Scalar.muli v2 c4_i32_194
  let v216 : BitVec 32 := Scalar.addi c0_i32_195 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_196 : BitVec 32 := 2#32
  let v217 : BitVec 32 := Scalar.muli v5 c2_i32_196
  let v218 : BitVec 32 := Scalar.addi v216 v217
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_197 : BitVec 32 := 1#32
  let v219 : BitVec 32 := Scalar.muli v11 c1_i32_197
  let v220 : BitVec 32 := Scalar.addi v218 v219
  v220.toNat
def k0_dev16 (d0 : Dev nD) : Nat :=
  let c0_i32_224 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_223 : BitVec 32 := 4#32
  let v243 : BitVec 32 := Scalar.muli v10 c4_i32_223
  let v244 : BitVec 32 := Scalar.addi c0_i32_224 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v245 : BitVec 32 := Scalar.muli v5 c2_i32_225
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_226 : BitVec 32 := 1#32
  let v247 : BitVec 32 := Scalar.muli v8 c1_i32_226
  let v248 : BitVec 32 := Scalar.addi v246 v247
  v248.toNat
def k0_dev17 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v255 : BitVec 32 := Scalar.muli v2 c4_i32_235
  let v256 : BitVec 32 := Scalar.addi c0_i32_236 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v257 : BitVec 32 := Scalar.muli v5 c2_i32_237
  let v258 : BitVec 32 := Scalar.addi v256 v257
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_238 : BitVec 32 := 1#32
  let v259 : BitVec 32 := Scalar.muli v11 c1_i32_238
  let v260 : BitVec 32 := Scalar.addi v258 v259
  v260.toNat
def k0_dev18 (d0 : Dev nD) : Nat :=
  let c0_i32_265 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_264 : BitVec 32 := 4#32
  let v283 : BitVec 32 := Scalar.muli v10 c4_i32_264
  let v284 : BitVec 32 := Scalar.addi c0_i32_265 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v285 : BitVec 32 := Scalar.muli v5 c2_i32_266
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v287 : BitVec 32 := Scalar.muli v8 c1_i32_267
  let v288 : BitVec 32 := Scalar.addi v286 v287
  v288.toNat
def k0_dev19 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v295 : BitVec 32 := Scalar.muli v2 c4_i32_276
  let v296 : BitVec 32 := Scalar.addi c0_i32_277 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v297 : BitVec 32 := Scalar.muli v5 c2_i32_278
  let v298 : BitVec 32 := Scalar.addi v296 v297
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_279 : BitVec 32 := 1#32
  let v299 : BitVec 32 := Scalar.muli v11 c1_i32_279
  let v300 : BitVec 32 := Scalar.addi v298 v299
  v300.toNat
def k0_dev20 (d0 : Dev nD) : Nat :=
  let c0_i32_306 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_305 : BitVec 32 := 4#32
  let v323 : BitVec 32 := Scalar.muli v10 c4_i32_305
  let v324 : BitVec 32 := Scalar.addi c0_i32_306 v323
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v325 : BitVec 32 := Scalar.muli v5 c2_i32_307
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v327 : BitVec 32 := Scalar.muli v8 c1_i32_308
  let v328 : BitVec 32 := Scalar.addi v326 v327
  v328.toNat
def k0_dev21 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v335 : BitVec 32 := Scalar.muli v2 c4_i32_317
  let v336 : BitVec 32 := Scalar.addi c0_i32_318 v335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v337 : BitVec 32 := Scalar.muli v5 c2_i32_319
  let v338 : BitVec 32 := Scalar.addi v336 v337
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_320 : BitVec 32 := 1#32
  let v339 : BitVec 32 := Scalar.muli v11 c1_i32_320
  let v340 : BitVec 32 := Scalar.addi v338 v339
  v340.toNat
def k0_dev22 (d0 : Dev nD) : Nat :=
  let c0_i32_347 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_346 : BitVec 32 := 4#32
  let v363 : BitVec 32 := Scalar.muli v10 c4_i32_346
  let v364 : BitVec 32 := Scalar.addi c0_i32_347 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v365 : BitVec 32 := Scalar.muli v5 c2_i32_348
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v367 : BitVec 32 := Scalar.muli v8 c1_i32_349
  let v368 : BitVec 32 := Scalar.addi v366 v367
  v368.toNat
def k0_dev23 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v375 : BitVec 32 := Scalar.muli v2 c4_i32_358
  let v376 : BitVec 32 := Scalar.addi c0_i32_359 v375
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v377 : BitVec 32 := Scalar.muli v5 c2_i32_360
  let v378 : BitVec 32 := Scalar.addi v376 v377
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_361 : BitVec 32 := 1#32
  let v379 : BitVec 32 := Scalar.muli v11 c1_i32_361
  let v380 : BitVec 32 := Scalar.addi v378 v379
  v380.toNat
def k0_dev24 (d0 : Dev nD) : Nat :=
  let c0_i32_388 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_387 : BitVec 32 := 4#32
  let v403 : BitVec 32 := Scalar.muli v10 c4_i32_387
  let v404 : BitVec 32 := Scalar.addi c0_i32_388 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_389 : BitVec 32 := 2#32
  let v405 : BitVec 32 := Scalar.muli v5 c2_i32_389
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v407 : BitVec 32 := Scalar.muli v8 c1_i32_390
  let v408 : BitVec 32 := Scalar.addi v406 v407
  v408.toNat
def k0_dev25 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v415 : BitVec 32 := Scalar.muli v2 c4_i32_399
  let v416 : BitVec 32 := Scalar.addi c0_i32_400 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v417 : BitVec 32 := Scalar.muli v5 c2_i32_401
  let v418 : BitVec 32 := Scalar.addi v416 v417
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_402 : BitVec 32 := 1#32
  let v419 : BitVec 32 := Scalar.muli v11 c1_i32_402
  let v420 : BitVec 32 := Scalar.addi v418 v419
  v420.toNat
def k0_dev26 (d0 : Dev nD) : Nat :=
  let c0_i32_429 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_428 : BitVec 32 := 4#32
  let v443 : BitVec 32 := Scalar.muli v10 c4_i32_428
  let v444 : BitVec 32 := Scalar.addi c0_i32_429 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_430 : BitVec 32 := 2#32
  let v445 : BitVec 32 := Scalar.muli v5 c2_i32_430
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v447 : BitVec 32 := Scalar.muli v8 c1_i32_431
  let v448 : BitVec 32 := Scalar.addi v446 v447
  v448.toNat
def k0_dev27 (d0 : Dev nD) : Nat :=
  let c0_i32_441 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_440 : BitVec 32 := 4#32
  let v455 : BitVec 32 := Scalar.muli v2 c4_i32_440
  let v456 : BitVec 32 := Scalar.addi c0_i32_441 v455
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_442 : BitVec 32 := 2#32
  let v457 : BitVec 32 := Scalar.muli v5 c2_i32_442
  let v458 : BitVec 32 := Scalar.addi v456 v457
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_443 : BitVec 32 := 1#32
  let v459 : BitVec 32 := Scalar.muli v11 c1_i32_443
  let v460 : BitVec 32 := Scalar.addi v458 v459
  v460.toNat
def k0_dev28 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v481 : BitVec 32 := Scalar.muli v2 c4_i32_467
  let v482 : BitVec 32 := Scalar.addi c0_i32_468 v481
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v483 : BitVec 32 := Scalar.muli v5 c2_i32_469
  let v484 : BitVec 32 := Scalar.addi v482 v483
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_470 : BitVec 32 := 1#32
  let v485 : BitVec 32 := Scalar.muli v11 c1_i32_470
  let v486 : BitVec 32 := Scalar.addi v484 v485
  v486.toNat
def k0_dev29 (d0 : Dev nD) : Nat :=
  let c0_i32_492 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_491 : BitVec 32 := 4#32
  let v503 : BitVec 32 := Scalar.muli v10 c4_i32_491
  let v504 : BitVec 32 := Scalar.addi c0_i32_492 v503
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_493 : BitVec 32 := 2#32
  let v505 : BitVec 32 := Scalar.muli v5 c2_i32_493
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_494 : BitVec 32 := 1#32
  let v507 : BitVec 32 := Scalar.muli v8 c1_i32_494
  let v508 : BitVec 32 := Scalar.addi v506 v507
  v508.toNat
def k0_dev30 (d0 : Dev nD) : Nat :=
  let c0_i32_515 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_514 : BitVec 32 := 4#32
  let v525 : BitVec 32 := Scalar.muli v2 c4_i32_514
  let v526 : BitVec 32 := Scalar.addi c0_i32_515 v525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v527 : BitVec 32 := Scalar.muli v5 c2_i32_516
  let v528 : BitVec 32 := Scalar.addi v526 v527
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_517 : BitVec 32 := 1#32
  let v529 : BitVec 32 := Scalar.muli v11 c1_i32_517
  let v530 : BitVec 32 := Scalar.addi v528 v529
  v530.toNat
def k0_dev31 (d0 : Dev nD) : Nat :=
  let c0_i32_539 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_538 : BitVec 32 := 4#32
  let v547 : BitVec 32 := Scalar.muli v10 c4_i32_538
  let v548 : BitVec 32 := Scalar.addi c0_i32_539 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_540 : BitVec 32 := 2#32
  let v549 : BitVec 32 := Scalar.muli v5 c2_i32_540
  let v550 : BitVec 32 := Scalar.addi v548 v549
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_541 : BitVec 32 := 1#32
  let v551 : BitVec 32 := Scalar.muli v8 c1_i32_541
  let v552 : BitVec 32 := Scalar.addi v550 v551
  v552.toNat
def k0_dev32 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v569 : BitVec 32 := Scalar.muli v2 c4_i32_561
  let v570 : BitVec 32 := Scalar.addi c0_i32_562 v569
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_563 : BitVec 32 := 2#32
  let v571 : BitVec 32 := Scalar.muli v5 c2_i32_563
  let v572 : BitVec 32 := Scalar.addi v570 v571
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_564 : BitVec 32 := 1#32
  let v573 : BitVec 32 := Scalar.muli v11 c1_i32_564
  let v574 : BitVec 32 := Scalar.addi v572 v573
  v574.toNat
def k0_dev33 (d0 : Dev nD) : Nat :=
  let c0_i32_586 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_585 : BitVec 32 := 4#32
  let v591 : BitVec 32 := Scalar.muli v10 c4_i32_585
  let v592 : BitVec 32 := Scalar.addi c0_i32_586 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_587 : BitVec 32 := 2#32
  let v593 : BitVec 32 := Scalar.muli v5 c2_i32_587
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_588 : BitVec 32 := 1#32
  let v595 : BitVec 32 := Scalar.muli v8 c1_i32_588
  let v596 : BitVec 32 := Scalar.addi v594 v595
  v596.toNat
def k0_dev34 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v613 : BitVec 32 := Scalar.muli v2 c4_i32_608
  let v614 : BitVec 32 := Scalar.addi c0_i32_609 v613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_610 : BitVec 32 := 2#32
  let v615 : BitVec 32 := Scalar.muli v5 c2_i32_610
  let v616 : BitVec 32 := Scalar.addi v614 v615
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_611 : BitVec 32 := 1#32
  let v617 : BitVec 32 := Scalar.muli v11 c1_i32_611
  let v618 : BitVec 32 := Scalar.addi v616 v617
  v618.toNat
def k0_dev35 (d0 : Dev nD) : Nat :=
  let c0_i32_633 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_632 : BitVec 32 := 4#32
  let v635 : BitVec 32 := Scalar.muli v10 c4_i32_632
  let v636 : BitVec 32 := Scalar.addi c0_i32_633 v635
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v637 : BitVec 32 := Scalar.muli v5 c2_i32_634
  let v638 : BitVec 32 := Scalar.addi v636 v637
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v639 : BitVec 32 := Scalar.muli v8 c1_i32_635
  let v640 : BitVec 32 := Scalar.addi v638 v639
  v640.toNat
def k0_dev36 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v657 : BitVec 32 := Scalar.muli v2 c4_i32_655
  let v658 : BitVec 32 := Scalar.addi c0_i32_656 v657
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v659 : BitVec 32 := Scalar.muli v5 c2_i32_657
  let v660 : BitVec 32 := Scalar.addi v658 v659
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_658 : BitVec 32 := 1#32
  let v661 : BitVec 32 := Scalar.muli v11 c1_i32_658
  let v662 : BitVec 32 := Scalar.addi v660 v661
  v662.toNat
def k0_dev37 (d0 : Dev nD) : Nat :=
  let c0_i32_680 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_679 : BitVec 32 := 4#32
  let v679 : BitVec 32 := Scalar.muli v10 c4_i32_679
  let v680 : BitVec 32 := Scalar.addi c0_i32_680 v679
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_681 : BitVec 32 := 2#32
  let v681 : BitVec 32 := Scalar.muli v5 c2_i32_681
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_682 : BitVec 32 := 1#32
  let v683 : BitVec 32 := Scalar.muli v8 c1_i32_682
  let v684 : BitVec 32 := Scalar.addi v682 v683
  v684.toNat
def k0_dev38 (d0 : Dev nD) : Nat :=
  let c0_i32_703 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_702 : BitVec 32 := 4#32
  let v701 : BitVec 32 := Scalar.muli v2 c4_i32_702
  let v702 : BitVec 32 := Scalar.addi c0_i32_703 v701
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_704 : BitVec 32 := 2#32
  let v703 : BitVec 32 := Scalar.muli v5 c2_i32_704
  let v704 : BitVec 32 := Scalar.addi v702 v703
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_705 : BitVec 32 := 1#32
  let v705 : BitVec 32 := Scalar.muli v11 c1_i32_705
  let v706 : BitVec 32 := Scalar.addi v704 v705
  v706.toNat
def k0_dev39 (d0 : Dev nD) : Nat :=
  let c0_i32_727 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_726 : BitVec 32 := 4#32
  let v723 : BitVec 32 := Scalar.muli v10 c4_i32_726
  let v724 : BitVec 32 := Scalar.addi c0_i32_727 v723
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_728 : BitVec 32 := 2#32
  let v725 : BitVec 32 := Scalar.muli v5 c2_i32_728
  let v726 : BitVec 32 := Scalar.addi v724 v725
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_729 : BitVec 32 := 1#32
  let v727 : BitVec 32 := Scalar.muli v8 c1_i32_729
  let v728 : BitVec 32 := Scalar.addi v726 v727
  v728.toNat
def k0_dev40 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v745 : BitVec 32 := Scalar.muli v2 c4_i32_749
  let v746 : BitVec 32 := Scalar.addi c0_i32_750 v745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_751 : BitVec 32 := 2#32
  let v747 : BitVec 32 := Scalar.muli v5 c2_i32_751
  let v748 : BitVec 32 := Scalar.addi v746 v747
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_752 : BitVec 32 := 1#32
  let v749 : BitVec 32 := Scalar.muli v11 c1_i32_752
  let v750 : BitVec 32 := Scalar.addi v748 v749
  v750.toNat
def k0_dev41 (d0 : Dev nD) : Nat :=
  let c0_i32_774 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_773 : BitVec 32 := 4#32
  let v767 : BitVec 32 := Scalar.muli v10 c4_i32_773
  let v768 : BitVec 32 := Scalar.addi c0_i32_774 v767
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_775 : BitVec 32 := 2#32
  let v769 : BitVec 32 := Scalar.muli v5 c2_i32_775
  let v770 : BitVec 32 := Scalar.addi v768 v769
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_776 : BitVec 32 := 1#32
  let v771 : BitVec 32 := Scalar.muli v8 c1_i32_776
  let v772 : BitVec 32 := Scalar.addi v770 v771
  v772.toNat
def k0_dev42 (d0 : Dev nD) : Nat :=
  let c0_i32_797 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_796 : BitVec 32 := 4#32
  let v789 : BitVec 32 := Scalar.muli v2 c4_i32_796
  let v790 : BitVec 32 := Scalar.addi c0_i32_797 v789
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_798 : BitVec 32 := 2#32
  let v791 : BitVec 32 := Scalar.muli v5 c2_i32_798
  let v792 : BitVec 32 := Scalar.addi v790 v791
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_799 : BitVec 32 := 1#32
  let v793 : BitVec 32 := Scalar.muli v11 c1_i32_799
  let v794 : BitVec 32 := Scalar.addi v792 v793
  v794.toNat
def k0_dev43 (d0 : Dev nD) : Nat :=
  let c0_i32_821 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_820 : BitVec 32 := 4#32
  let v811 : BitVec 32 := Scalar.muli v10 c4_i32_820
  let v812 : BitVec 32 := Scalar.addi c0_i32_821 v811
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_822 : BitVec 32 := 2#32
  let v813 : BitVec 32 := Scalar.muli v5 c2_i32_822
  let v814 : BitVec 32 := Scalar.addi v812 v813
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_823 : BitVec 32 := 1#32
  let v815 : BitVec 32 := Scalar.muli v8 c1_i32_823
  let v816 : BitVec 32 := Scalar.addi v814 v815
  v816.toNat
def k0_off2 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_827 : BitVec 32 := 512#32
  let v823 : BitVec 32 := Scalar.muli v16 c512_i32_827
  let c0_i32_829 : BitVec 32 := 0#32
  ![v823.toNat, 0]
def k0_off3 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_830 : BitVec 32 := 512#32
  let v827 : BitVec 32 := Scalar.muli v19 c512_i32_830
  let c0_i32_832 : BitVec 32 := 0#32
  ![v827.toNat, 0]
def k0_off4 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_1025 : BitVec 32 := 512#32
  let v991 : BitVec 32 := Scalar.muli v23 c512_i32_1025
  let c0_i32_1027 : BitVec 32 := 0#32
  ![v991.toNat, 0]
-- ==== ReferenceIdeal.lean ====
abbrev S4096x512 : Shape := ⟨2, ![4096, 512]⟩
abbrev S2x2048x512 : Shape := ⟨3, ![2, 2048, 512]⟩
abbrev S_ : Shape := ⟨0, ![]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x2048x512, .f32⟩
  | .hbm, ⟨2, _⟩ => ⟨S_, .f32⟩
  | .hbm, ⟨3, _⟩ => ⟨S2048x512, .f32⟩
  | .hbm, ⟨4, _⟩ => ⟨S2048x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Program.lean ====
/-
The kernel body as loops over the eight row chunks.

The printed body is one straight line of statements: what the source writes as loops over the chunks is there unrolled,
and its addresses are numbers. Here the same program is written with its loops (`body`), every statement at a symbolic
chunk `k : Fin 8`, and `body_eq` states that the printed body is this one. The proofs after it reason about one chunk.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.SL.Sem

variable {F : FTy → Type} [FloatOps F]

/-! ## The buffers and the semaphores -/

/-- The device's block of the argument and its result, in HBM. -/
abbrev xM : Memref sig .tc .hbm S2048x512 .f32 := Memref.whole main_arg0
abbrev oM : Memref sig .tc .hbm S2048x512 .bf16 := Memref.whole main_v1
/-- The quarter of the argument the device works on, and that quarter rounded. -/
abbrev inM : Memref sig .tc .vmem S512x512 .f32 := Memref.whole cc0_scratch0
abbrev rawM : Memref sig .tc .vmem S512x512 .bf16 := Memref.whole cc0_scratch1
/-- What arrives from the peer along y, and the sum of the two. -/
abbrev yM : Memref sig .tc .vmem S512x512 .bf16 := Memref.whole cc0_scratch2
abbrev sumM : Memref sig .tc .vmem S512x512 .bf16 := Memref.whole cc0_scratch3
/-- The sums that arrive from the peers along x and z, and the one forwarded from the opposite corner. -/
abbrev xrM : Memref sig .tc .vmem S512x512 .bf16 := Memref.whole cc0_scratch4
abbrev zrM : Memref sig .tc .vmem S512x512 .bf16 := Memref.whole cc0_scratch5
abbrev drM : Memref sig .tc .vmem S512x512 .bf16 := Memref.whole cc0_scratch6

/-- A chunk lies in its buffer. -/
theorem inbRow : ∀ k : Fin 8, ∀ a, (![64 * k.val, 0] : Fin 2 → Nat) a + S64x512.size a ≤ S512x512.size a := by decide
/-- Its upper half does. -/
theorem inbTop : ∀ k : Fin 8, ∀ a, (![64 * k.val, 0] : Fin 2 → Nat) a + S32x512.size a ≤ S512x512.size a := by decide
/-- Its lower half does. -/
theorem inbBot : ∀ k : Fin 8, ∀ a, (![64 * k.val + 32, 0] : Fin 2 → Nat) a + S32x512.size a ≤ S512x512.size a := by decide
/-- A semaphore lies in its array. -/
theorem inbSem : ∀ i : Fin 5, ∀ k : Fin 8, ∀ a, (![i.val, k.val] : Fin 2 → Nat) a + S1x1.size a ≤ S5x8.size a := by decide
/-- So does a copy out's. -/
theorem inbOut : ∀ r : Fin 4, ∀ a, (![r.val] : Fin 1 → Nat) a + S1.size a ≤ S4.size a := by decide

/-- The rectangles of chunk `k`: its 64 rows, the first 32 of them, the last 32. -/
abbrev rowR (k : Fin 8) : Rect S512x512 := Rect.unit (s := S512x512) ![64 * k.val, 0] S64x512.size (inbRow k)
abbrev topR (k : Fin 8) : Rect S512x512 := Rect.unit (s := S512x512) ![64 * k.val, 0] S32x512.size (inbTop k)
abbrev botR (k : Fin 8) : Rect S512x512 := Rect.unit (s := S512x512) ![64 * k.val + 32, 0] S32x512.size (inbBot k)
abbrev allR : Rect S512x512 := Rect.unit (s := S512x512) ![0, 0] S512x512.size inb_S512x512_S512x512_0_0

/-- A chunk is of whole words. -/
theorem rowWords : ∀ k : Fin 8, (rowR k).WholeWords (EltTy.packing .bf16) := by decide
/-- Its upper half is. -/
theorem topWords : ∀ k : Fin 8, (topR k).WholeWords (EltTy.packing .bf16) := by decide
/-- Its lower half is. -/
theorem botWords : ∀ k : Fin 8, (botR k).WholeWords (EltTy.packing .bf16) := by decide
/-- A chunk is of whole packed rows. -/
theorem rowPacked : ∀ k : Fin 8, (rowR k).PackedRows (EltTy.packing .bf16) := by decide

/-- Chunk `k` of a buffer, and its two halves. -/
abbrev row (m : Memref sig .tc .vmem S512x512 .bf16) (k : Fin 8) : Memref sig .tc .vmem S64x512 .bf16 := m.slice (rowR k) (fun _ => rfl)
abbrev top (m : Memref sig .tc .vmem S512x512 .bf16) (k : Fin 8) : Memref sig .tc .vmem S32x512 .bf16 := m.slice (topR k) (fun _ => rfl)
abbrev bot (m : Memref sig .tc .vmem S512x512 .bf16) (k : Fin 8) : Memref sig .tc .vmem S32x512 .bf16 := m.slice (botR k) (fun _ => rfl)

/-- The send and the receive semaphore of transfer `i` of chunk `k`: `i` is 0 along y, 1 along x, 2 along z, 3 and 4 the
    two forwarded halves. -/
abbrev sndS (i : Fin 5) (k : Fin 8) : DmaSem sig :=
  ((cc0_scratch7.slice (Rect.unit (s := S5x8) ![i.val, k.val] S1x1.size (inbSem i k))).squeeze S_ squeezes_S1x1_S_).sem
abbrev rcvS (i : Fin 5) (k : Fin 8) : DmaSem sig :=
  ((cc0_scratch8.slice (Rect.unit (s := S5x8) ![i.val, k.val] S1x1.size (inbSem i k))).squeeze S_ squeezes_S1x1_S_).sem
/-- The semaphore of the copy in, those of the four copies out, and the runtime's barrier semaphore. -/
abbrev inS : DmaSem sig := cc0_scratch9.sem
abbrev outS (r : Fin 4) : DmaSem sig :=
  ((cc0_scratch10.slice (Rect.unit (s := S4) ![r.val] S1.size (inbOut r))).squeeze S_ squeezes_S1_S_).sem
/-- The barrier. -/
abbrev barS : Sem sig := (SemArray.scalar (sig.barrier 0 rfl) : Sems sig S_).sem

/-- The peers along y, x and z as the program computes them. -/
abbrev yP (d : Dev nD) : Dev nD := ⟨k0_dev1 d, k0_dev1_lt d⟩
abbrev xP (d : Dev nD) : Dev nD := ⟨k0_dev2 d, k0_dev2_lt d⟩
abbrev zP (d : Dev nD) : Dev nD := ⟨k0_dev3 d, k0_dev3_lt d⟩

/-- The quarter of the argument that is the device's. -/
abbrev xBlk (d : Dev nD) : Memref sig .tc .hbm S512x512 .f32 :=
  xM.slice (Rect.unit (s := S2048x512) (k0_off1 d) S512x512.size (k0_off1_inb d)) (fun _ => rfl)
/-- The four quarters of the result: the device's own, its x peer's, its z peer's, the opposite corner's. -/
abbrev oOff : Fin 4 → Dev nD → Fin 2 → Nat
  | 0 => k0_off1 | 1 => k0_off2 | 2 => k0_off3 | 3 => k0_off4
/-- A quarter lies in the result. -/
theorem oInb : ∀ (r : Fin 4) (d : Dev nD), ∀ a, oOff r d a + S512x512.size a ≤ S2048x512.size a
  | 0 => k0_off1_inb | 1 => k0_off2_inb | 2 => k0_off3_inb | 3 => k0_off4_inb
/-- A quarter is of whole words. -/
theorem oWords : ∀ (r : Fin 4) (d : Dev nD), (Rect.unit (s := S2048x512) (oOff r d) S512x512.size (oInb r d)).WholeWords (EltTy.packing .bf16)
  | 0 => k0_off1_wordsbf16 | 1 => k0_off2_wordsbf16 | 2 => k0_off3_wordsbf16 | 3 => k0_off4_wordsbf16
abbrev oBlk (r : Fin 4) (d : Dev nD) : Memref sig .tc .hbm S512x512 .bf16 :=
  oM.slice (Rect.unit (s := S2048x512) (oOff r d) S512x512.size (oInb r d)) (fun _ => rfl)

/-! ## The statements -/

variable (F) in
/-- A program of the body's effects. -/
abbrev TProg : Type 1 := Prog (TpuEff nD τ sig (Elt F) Λ₀ .tc) PUnit

/-- Send chunk `k` of `m` to the same chunk of `m'` at device `p`, as transfer `i`. -/
abbrev sendRow (m m' : Memref sig .tc .vmem S512x512 .bf16) (hm : m.IsWhole) (hm' : m'.IsWhole) (h : m'.view.ref.isScScratch = false)
    (i : Fin 5) (k : Fin 8) (p : Dev nD) : TProg F :=
  Prog.lift (.enqueueDma (row m k) (.remote (Dev.tc p) (row m' k) (.dma (sndS i k)) h) (.dma (rcvS i k))
    (hm.wordExact_slice rfl _ (rowWords k)) (hm'.wordExact_slice rfl _ (rowWords k)) ⟨⟨rfl, Or.inl rfl⟩, trivial⟩)
/-- Send the first half of chunk `k`. -/
abbrev sendTop (m m' : Memref sig .tc .vmem S512x512 .bf16) (hm : m.IsWhole) (hm' : m'.IsWhole) (h : m'.view.ref.isScScratch = false)
    (i : Fin 5) (k : Fin 8) (p : Dev nD) : TProg F :=
  Prog.lift (.enqueueDma (top m k) (.remote (Dev.tc p) (top m' k) (.dma (sndS i k)) h) (.dma (rcvS i k))
    (hm.wordExact_slice rfl _ (topWords k)) (hm'.wordExact_slice rfl _ (topWords k)) ⟨⟨rfl, Or.inl rfl⟩, trivial⟩)
/-- Send the second half of chunk `k`. -/
abbrev sendBot (m m' : Memref sig .tc .vmem S512x512 .bf16) (hm : m.IsWhole) (hm' : m'.IsWhole) (h : m'.view.ref.isScScratch = false)
    (i : Fin 5) (k : Fin 8) (p : Dev nD) : TProg F :=
  Prog.lift (.enqueueDma (bot m k) (.remote (Dev.tc p) (bot m' k) (.dma (sndS i k)) h) (.dma (rcvS i k))
    (hm.wordExact_slice rfl _ (botWords k)) (hm'.wordExact_slice rfl _ (botWords k)) ⟨⟨rfl, Or.inl rfl⟩, trivial⟩)

/-- Wait on semaphore `s` for a chunk, for its first half, for its second half. -/
abbrev waitRow (s : DmaSem sig) (m m' : Memref sig .tc .vmem S512x512 .bf16) (hm : m.IsWhole) (hm' : m'.IsWhole) (k : Fin 8) : TProg F :=
  Prog.lift (.waitDma2 s (row m k) (row m' k) (hm.wordExact_slice rfl _ (rowWords k)) (hm'.wordExact_slice rfl _ (rowWords k)))
abbrev waitTop (s : DmaSem sig) (m m' : Memref sig .tc .vmem S512x512 .bf16) (hm : m.IsWhole) (hm' : m'.IsWhole) (k : Fin 8) : TProg F :=
  Prog.lift (.waitDma2 s (top m k) (top m' k) (hm.wordExact_slice rfl _ (topWords k)) (hm'.wordExact_slice rfl _ (topWords k)))
abbrev waitBot (s : DmaSem sig) (m m' : Memref sig .tc .vmem S512x512 .bf16) (hm : m.IsWhole) (hm' : m'.IsWhole) (k : Fin 8) : TProg F :=
  Prog.lift (.waitDma2 s (bot m k) (bot m' k) (hm.wordExact_slice rfl _ (botWords k)) (hm'.wordExact_slice rfl _ (botWords k)))

/-- Copy a whole buffer to quarter `r` of the result, and wait for that copy. -/
abbrev flush (r : Fin 4) (m : Memref sig .tc .vmem S512x512 .bf16) (hm : m.IsWhole) (d : Dev nD) : TProg F :=
  Prog.lift (.enqueueDma m (.here (oBlk r d)) (.dma (outS r)) hm.wordExact ((Memref.isWhole_whole _).wordExact_slice rfl _ (oWords r d)) ⟨Or.inl rfl, trivial⟩)
abbrev waitOut (r : Fin 4) (m : Memref sig .tc .vmem S512x512 .bf16) (hm : m.IsWhole) (d : Dev nD) : TProg F :=
  Prog.lift (.waitDma2 (outS r) m (oBlk r d) hm.wordExact ((Memref.isWhole_whole _).wordExact_slice rfl _ (oWords r d)))

/-- The copy in and its wait. -/
abbrev copyIn (d : Dev nD) : TProg F :=
  Prog.lift (.enqueueDma (xBlk d) (.here inM) (.dma inS) (View.wordExact_bits rfl) (Memref.isWhole_whole _).wordExact ⟨Or.inl rfl, trivial⟩)
abbrev waitIn (d : Dev nD) : TProg F :=
  Prog.lift (.waitDma2 inS (xBlk d) inM (View.wordExact_bits rfl) (Memref.isWhole_whole _).wordExact)

/-- `raw[...] = xblk[...].astype(bfloat16)`. -/
abbrev roundIn : TProg F := do
  let v : Vec F S512x512 .f32 ← Prog.lift (.load inM allR.toLoadRect (View.loadsAt_vmem h_S512x512))
  let _ : Vec F S512x512 .bf16 ← Prog.lift (.load rawM allR.toLoadRect (View.loadsAt_vmem h_S512x512))
  Prog.lift (.store rawM allR (k0_pay1 v) Finset.univ (View.stores_vmem h_S512x512 ((Memref.isWhole_whole _).storeExact_slice rfl _ packedbf16_S512x512_S512x512_0_0) (fun _ => rfl)) (.inl rfl))

/-- `summ[chunk] = raw[chunk] + yrecv[chunk]`. -/
abbrev addRow (k : Fin 8) : TProg F := do
  let a : Vec F S64x512 .bf16 ← Prog.lift (.load rawM (rowR k).toLoadRect (View.loadsAt_vmem h_S64x512))
  let b : Vec F S64x512 .bf16 ← Prog.lift (.load yM (rowR k).toLoadRect (View.loadsAt_vmem h_S64x512))
  let _ : Vec F S64x512 .bf16 ← Prog.lift (.load sumM (rowR k).toLoadRect (View.loadsAt_vmem h_S64x512))
  Prog.lift (.store sumM (rowR k) (k0_pay2 a b) Finset.univ (View.stores_vmem h_S64x512 ((Memref.isWhole_whole _).storeExact_slice rfl _ (rowPacked k)) (fun _ => rfl)) (.inl rfl))

/-- A loop over a list of chunks. -/
def each (f : Fin 8 → TProg F) : List (Fin 8) → TProg F
  | [] => pure ⟨⟩
  | k :: ks => f k >>= fun _ => each f ks

/-- The eight chunks in order. -/
def chunks : List (Fin 8) := [⟨0, by decide⟩, ⟨1, by decide⟩, ⟨2, by decide⟩, ⟨3, by decide⟩, ⟨4, by decide⟩, ⟨5, by decide⟩, ⟨6, by decide⟩, ⟨7, by decide⟩]

/-! ## The stages -/

/-- Each of the buffers is taken whole. -/
abbrev W : ∀ b : Ref sig .tc, (Memref.whole b).IsWhole := fun b => Memref.isWhole_whole b

/-- The copy in, the three signals, and the copy's wait. -/
abbrev enter (d : Dev nD) : TProg F := do
  copyIn d
  semSignalWord (yP d) barS 1#32
  semSignalWord (xP d) barS 1#32
  semSignalWord (zP d) barS 1#32
  waitIn d
/-- Chunk `k` along y. -/
abbrev stepY (d : Dev nD) (k : Fin 8) : TProg F := sendRow rawM yM (W _) (W _) rfl 0 k (yP d)
/-- Chunk `k`: the peer's arrives, the sum is made and goes out along x and z. -/
abbrev stepS (d : Dev nD) (k : Fin 8) : TProg F := do
  waitRow (rcvS 0 k) rawM yM (W _) (W _) k
  addRow k
  sendRow sumM xrM (W _) (W _) rfl 1 k (xP d)
  sendRow sumM zrM (W _) (W _) rfl 2 k (zP d)
/-- Chunk `k`: the two sums arrive and half of each is forwarded. -/
abbrev stepF (d : Dev nD) (k : Fin 8) : TProg F := do
  waitRow (rcvS 1 k) sumM xrM (W _) (W _) k
  sendTop xrM drM (W _) (W _) rfl 3 k (zP d)
  waitRow (rcvS 2 k) sumM zrM (W _) (W _) k
  sendBot zrM drM (W _) (W _) rfl 4 k (xP d)
/-- Chunk `k`: both forwarded halves arrive. -/
abbrev stepD (k : Fin 8) : TProg F := do
  waitTop (rcvS 3 k) xrM drM (W _) (W _) k
  waitBot (rcvS 4 k) zrM drM (W _) (W _) k
/-- Chunk `k`: its three sends are done. -/
abbrev stepE (k : Fin 8) : TProg F := do
  waitRow (sndS 0 k) yM rawM (W _) (W _) k
  waitRow (sndS 1 k) xrM sumM (W _) (W _) k
  waitRow (sndS 2 k) zrM sumM (W _) (W _) k
/-- Chunk `k`: its two forwards are done. -/
abbrev stepG (k : Fin 8) : TProg F := do
  waitTop (sndS 3 k) drM xrM (W _) (W _) k
  waitBot (sndS 4 k) drM zrM (W _) (W _) k

/-- The body on device `d`. -/
def bodyAt (d : Dev nD) : TProg F := do
  enter d
  roundIn
  semWaitWord barS 3#32
  each (stepY d) chunks
  each (stepS d) chunks
  flush 0 sumM (W _) d
  each (stepF d) chunks
  flush 1 xrM (W _) d
  flush 2 zrM (W _) d
  each stepD chunks
  flush 3 drM (W _) d
  each stepE chunks
  each stepG chunks
  waitOut 0 sumM (W _) d
  waitOut 1 xrM (W _) d
  waitOut 2 zrM (W _) d
  waitOut 3 drM (W _) d

/-- The body: it reads its device and runs `bodyAt`. -/
def body : TProg F := do
  let d : Dev nD ← Prog.lift .deviceId
  bodyAt d

set_option maxRecDepth 65536 in
/-- The printed body is `body`. -/
theorem body_eq :
    cc0_body (F := F) (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8 cc0_scratch9 cc0_scratch10
      = body := by
  chain_rfl

end Cert.AllReduce

end
-- ==== Proof.Own.lean ====
/-
Owning a part of a buffer at known values, and the statements that read, write or copy such a part.

`ownsTc c m q X` says that device `c` owns the memref `m` at share `q` and reads `X` through it. The first part of this
file cuts a 512-row buffer owned at values `V` into its eight row chunks, and a chunk into its two halves, and puts them
together again. The second part states a load and a store on such a memref.
-/
module

public import proofs.«01_k».proof.Proof.Program
public import Idealize.ShloMosaic.Lib.Rounds
public import Idealize.ShloMosaic.Lib.Memref
public import Idealize.ShloMosaic.Lib.MemrefSat
public import Idealize.ShloMosaic.Lib.VecWindow

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the launch's own and the protocol's, whose duties are named 0, 1, 2. -/
abbrev UB : Type := URounds (GSem nD τ sig) (Fin 3)
/-- The ghost state: the pipeline's and the protocol's. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UB (MT nD τ sig Unit (Elt F) ℕ UU ℕ) := embR

/-- No loop variant is needed. -/
abbrev 𝒱₀ : Variants := Variants.none

/-- The weakest precondition of a program on device `c`. -/
abbrev wpc (c : Dev nD) (p : TProg F) (Kt : PUnit → sProp 𝕄) : sProp 𝕄 :=
  wp frame (wpE (defs₀ (F := F)) 𝒱₀ (c.tc : Thread nD τ) none) Set.univ p Kt

/-! ## Cutting a memref along rectangles -/

section Cut

variable {sp : Space} {sh : Shape} {e : EltTy} (c : Dev nD) (m : Memref sig .tc sp sh e) (q : PosShare TreeShare)

/-- Values are those the memref reads of some contents of its buffer; true of all values of a whole buffer. -/
abbrev Held (m : Memref sig .tc sp sh e) (X : sh.Idx → Elt F e) : Prop := ∃ g, m.view.read (Elt F) g = X

/-- A memref owned at what it reads of `g` is its elements at `g`. -/
theorem owns_at (g : m.view.ty.Contents (Elt F)) :
    (ownsTc c m q (m.view.read (Elt F) g) : sProp 𝕄) = (m.view.loc (c.tc : Thread nD τ) ↦[m.view.set]{q} g) := by
  have h₁ : (ownsTc c m q (m.view.read (Elt F) g) : sProp 𝕄) ⊢ (m.view.loc (c.tc : Thread nD τ) ↦[m.view.set]{q} g) := by
    unfold ownsTc owns
    iintro ⟨%f, %hf, H⟩
    have hfg : ∀ i ∈ m.view.set, f i = g i := fun i hi => by
      rw [View.set, Finset.mem_map] at hi
      obtain ⟨x, -, rfl⟩ := hi
      have := congrFun hf x
      simp only [View.read] at this
      exact (cast_inj _).mp this
    have e1 : (m.view.loc (c.tc : Thread nD τ) ↦[m.view.set]{q} f : sProp 𝕄) = (m.view.loc (c.tc : Thread nD τ) ↦[m.view.set]{q} g) := pointsTo_congr hfg
    rw [← e1]
    iexact H
  exact BI.Entails.antisymm h₁ (owns_intro (c.tc : Thread nD τ) m q g)

/-- A slice owned at its part of held values is its elements at the contents that read so. -/
theorem owns_slice_at (r : Rect sh) (hr : ∀ a, r.stride a = 1) (g : m.view.ty.Contents (Elt F)) :
    (ownsTc c (m.slice r hr) q (fun j => m.view.read (Elt F) g (r.emb j)) : sProp 𝕄)
      = (m.view.loc (c.tc : Thread nD τ) ↦[(m.view.slice r).set]{q} g) :=
  owns_slice_read (c.tc : Thread nD τ) m q r hr g

/-- Owning a memref at held values is owning each rectangle of a disjoint cover at its part of them. -/
theorem owns_cover {T : Type} [Fintype T] (r : T → Rect sh) (hr : ∀ t a, (r t).stride a = 1)
    (hd : ∀ t t', t ≠ t' → Disjoint (r t).set (r t').set)
    (hcov : (Finset.univ : Finset T).biUnion (fun t => (r t).set) = Finset.univ) {X : sh.Idx → Elt F e} (hX : Held m X) :
    (ownsTc c m q X : sProp 𝕄) = bigSep Finset.univ fun t => ownsTc c (m.slice (r t) (hr t)) q (fun j => X ((r t).emb j)) := by
  obtain ⟨g, rfl⟩ := hX
  rw [owns_at]
  exact pointsTo_rects (c.tc : Thread nD τ) m q r hr hd hcov g

/-- Owning a slice at its part of held values is owning the two rectangles it splits into, each at its part. -/
theorem owns_two (r r₁ r₂ : Rect sh) (hr : ∀ a, r.stride a = 1) (hr₁ : ∀ a, r₁.stride a = 1) (hr₂ : ∀ a, r₂.stride a = 1)
    (hd : Disjoint r₁.set r₂.set) (hu : r.set = r₁.set ∪ r₂.set) {X : sh.Idx → Elt F e} (hX : Held m X) :
    (ownsTc c (m.slice r hr) q (fun j => X (r.emb j)) : sProp 𝕄)
      = iprop(ownsTc c (m.slice r₁ hr₁) q (fun j => X (r₁.emb j)) ∗ ownsTc c (m.slice r₂ hr₂) q (fun j => X (r₂.emb j))) := by
  obtain ⟨g, rfl⟩ := hX
  rw [owns_slice_at, owns_slice_at, owns_slice_at]
  have hset : (m.view.slice r).set = (m.view.slice r₁).set ∪ (m.view.slice r₂).set := by
    simp only [View.set_slice, hu, Finset.map_union]
  rw [hset]
  have hdis : Disjoint (m.view.slice r₁).set (m.view.slice r₂).set := by
    simp only [View.set_slice]
    exact (Finset.disjoint_map _).mpr hd
  exact BI.Entails.antisymm (pointsTo_union hdis).1 (pointsTo_union hdis).2

/-- A share of a memref is its two halves, -/
theorem owns_split (X : sh.Idx → Elt F e) :
    (ownsTc c m q X : sProp 𝕄) = iprop(ownsTc c m q.left X ∗ ownsTc c m q.right X) :=
  BI.Entails.antisymm (owns_halves (c.tc : Thread nD τ) m q X).1 (owns_halves (c.tc : Thread nD τ) m q X).2

end Cut

/-! ## Chunks and halves -/

/-- The values of chunk `k`, of its first and of its second half. -/
abbrev rowOf {α : Type} (V : S512x512.Idx → α) (k : Fin 8) : S64x512.Idx → α := fun j => V ((rowR k).emb j)
/-- The upper half of a chunk's rows. -/
abbrev topOf {α : Type} (V : S512x512.Idx → α) (k : Fin 8) : S32x512.Idx → α := fun j => V ((topR k).emb j)
/-- The lower half of a chunk's rows. -/
abbrev botOf {α : Type} (V : S512x512.Idx → α) (k : Fin 8) : S32x512.Idx → α := fun j => V ((botR k).emb j)

/-- The indices of chunk `k`. -/
theorem mem_row (k : Fin 8) (i : S512x512.Idx) : i ∈ (rowR k).set ↔ 64 * k.val ≤ (i 0).val ∧ (i 0).val < 64 * k.val + 64 := by
  rw [Rect.mem_set_unit, Fin.forall_fin_two]
  have h1 : (i 1).val < 512 := (i 1).isLt
  exact ⟨fun h => h.1, fun h => ⟨h, Nat.zero_le _, by simpa using h1⟩⟩

/-- The indices of chunk `k`'s upper half. -/
theorem mem_top (k : Fin 8) (i : S512x512.Idx) : i ∈ (topR k).set ↔ 64 * k.val ≤ (i 0).val ∧ (i 0).val < 64 * k.val + 32 := by
  rw [Rect.mem_set_unit, Fin.forall_fin_two]
  have h1 : (i 1).val < 512 := (i 1).isLt
  exact ⟨fun h => h.1, fun h => ⟨h, Nat.zero_le _, by simpa using h1⟩⟩

/-- The indices of chunk `k`'s lower half. -/
theorem mem_bot (k : Fin 8) (i : S512x512.Idx) : i ∈ (botR k).set ↔ 64 * k.val + 32 ≤ (i 0).val ∧ (i 0).val < 64 * k.val + 32 + 32 := by
  rw [Rect.mem_set_unit, Fin.forall_fin_two]
  have h1 : (i 1).val < 512 := (i 1).isLt
  exact ⟨fun h => h.1, fun h => ⟨h, Nat.zero_le _, by simpa using h1⟩⟩

/-- Two chunks share no index. -/
theorem rows_disjoint (k k' : Fin 8) (h : k ≠ k') : Disjoint (rowR k).set (rowR k').set := by
  rw [Finset.disjoint_left]
  intro i hi hi'
  rw [mem_row] at hi hi'
  exact h (Fin.ext (by omega))

/-- The chunks are all of the buffer. -/
theorem rows_cover : (Finset.univ : Finset (Fin 8)).biUnion (fun k => (rowR k).set) = Finset.univ := by
  refine Finset.eq_univ_iff_forall.mpr fun i => Finset.mem_biUnion.mpr ?_
  have h0 : (i 0).val < 512 := (i 0).isLt
  refine ⟨⟨(i 0).val / 64, by omega⟩, Finset.mem_univ _, ?_⟩
  rw [mem_row]
  dsimp only
  omega

/-- A chunk's halves share no index. -/
theorem halves_disjoint (k : Fin 8) : Disjoint (topR k).set (botR k).set := by
  rw [Finset.disjoint_left]
  intro i hi hi'
  rw [mem_top] at hi
  rw [mem_bot] at hi'
  omega

/-- A chunk is its two halves. -/
theorem halves_cover (k : Fin 8) : (rowR k).set = (topR k).set ∪ (botR k).set := by
  ext i
  rw [Finset.mem_union, mem_row, mem_top, mem_bot]
  omega

section Chunks

variable (c : Dev nD) (m : Memref sig .tc .vmem S512x512 .bf16) (q : PosShare TreeShare) {V : S512x512.Idx → Elt F .bf16}

/-- A buffer is its eight chunks. -/
theorem owns_rows (hV : Held m V) :
    (ownsTc c m q V : sProp 𝕄) = bigSep Finset.univ fun k => ownsTc c (row m k) q (rowOf V k) :=
  owns_cover c m q rowR (fun _ _ => rfl) rows_disjoint rows_cover hV

/-- A chunk is its two halves. -/
theorem owns_row_halves (hV : Held m V) (k : Fin 8) :
    (ownsTc c (row m k) q (rowOf V k) : sProp 𝕄) = iprop(ownsTc c (top m k) q (topOf V k) ∗ ownsTc c (bot m k) q (botOf V k)) :=
  owns_two c m q (rowR k) (topR k) (botR k) (fun _ => rfl) (fun _ => rfl) (fun _ => rfl) (halves_disjoint k) (halves_cover k) hV

end Chunks

/-- Every index of a 512-row buffer under the whole rectangle is itself. -/
theorem allR_emb (j : S512x512.Idx) : allR.emb j = j :=
  funext fun a => Fin.ext (by fin_cases a <;> exact (Nat.zero_add _).trans (Nat.one_mul _))

/-! ## Reading and writing -/

section Rules

variable (c : Dev nD)

/-- A load through a rectangle of an owned memref yields its values there. -/
theorem own_load {sp : CoreSpace} {sh : Shape} {e : EltTy} {m : Memref sig .tc sp sh e} {q : PosShare TreeShare} {X : sh.Idx → Elt F e} {r : LoadRect sh}
    {hl : m.view.LoadsAt r} {k : (r.shape.Idx → Elt F e) → TProg F} {Kt : PUnit → sProp 𝕄} :
    (ownsTc c m q X)
      ⊢ iprop((ownsTc c m q X -∗ wpc c (k fun j => X (r.idx j)) Kt) -∗ wpc c (.op (.load m r hl) k) Kt) := by
  unfold ownsTc owns
  iintro ⟨%f, %hf, H⟩ Hk
  iapply (wp_load 𝒱₀ (c.tc : Thread nD τ) none Set.univ (m := m) (r := r) (View.setOn_subset_set _ _)) $$ H
  iintro H
  have e1 : m.view.readAt (Elt F) r f = fun j => X (r.idx j) := by rw [← hf]; rfl
  rw [e1]
  iapply Hk
  iexists f
  isplitr; · ipureintro; exact hf
  iexact H

/-- A load through a rectangle of a memref whose slice there is owned. -/
theorem own_load_slice {sp : CoreSpace} {sh : Shape} {e : EltTy} {m : Memref sig .tc sp sh e} {q : PosShare TreeShare} {r : Rect sh} (hr : ∀ a, r.stride a = 1)
    {X : r.shape.Idx → Elt F e} {hl : m.view.LoadsAt r.toLoadRect} {k : (r.shape.Idx → Elt F e) → TProg F} {Kt : PUnit → sProp 𝕄} :
    (ownsTc c (m.slice r hr) q X)
      ⊢ iprop((ownsTc c (m.slice r hr) q X -∗ wpc c (k X) Kt) -∗ wpc c (.op (.load m r.toLoadRect hl) k) Kt) := by
  unfold ownsTc owns
  iintro ⟨%f, %hf, H⟩ Hk
  iapply (wp_load_rect 𝒱₀ (c.tc : Thread nD τ) none Set.univ (m := m) (r := r) (S := (m.slice r hr).view.set) (f := f) subset_rfl) $$ H
  iintro H
  have e1 : (m.access r).read (Elt F) f = X := hf
  rw [e1]
  iapply Hk
  iexists f
  isplitr; · ipureintro; exact hf
  iexact H

/-- A store through a rectangle of a memref whose slice there is owned. -/
theorem own_store_slice {sp : CoreSpace} {sh : Shape} {e : EltTy} {m : Memref sig .tc sp sh e} {r : Rect sh} (hr : ∀ a, r.stride a = 1)
    {X w : r.shape.Idx → Elt F e} {hx : (m.access r).Stores Finset.univ} {hm} {k : PUnit → TProg F} {Kt : PUnit → sProp 𝕄} :
    (ownsTc c (m.slice r hr) fullShare X)
      ⊢ iprop((ownsTc c (m.slice r hr) fullShare w -∗ wpc c (k ⟨⟩) Kt) -∗ wpc c (.op (.store m r w Finset.univ hx hm) k) Kt) := by
  unfold ownsTc owns
  iintro ⟨%f, %hf, H⟩ Hk
  iapply (wp_store 𝒱₀ (c.tc : Thread nD τ) none Set.univ (m := m) (r := r) (Mk := Finset.univ) (S := (m.slice r hr).view.set) (f := f) subset_rfl) $$ H
  iintro H
  iapply Hk
  iexists _
  isplitr
  · ipureintro; exact View.read_write_univ f w
  iexact H

end Rules

end Cert.AllReduce

end
-- ==== Proof.Protocol.lean ====
/-
The protocol of the all-reduce: for every semaphore, who waits on it, who pays it, how much, in what order, and what the
units hand over.

Device `c` works on its own quarter of the rows. It has three peers: `yP c` holds the other summand of the same quarter,
`xP c` and `zP c` hold the neighbouring quarters. Five transfers per chunk leave it: 0 its rounded rows to `yP c`, 1 and 2
the sums to `xP c` and `zP c`, 3 and 4 the halves of what it got from `xP c` and `zP c`, forwarded to `zP c` and `xP c`.

* barrier of `c`: paid by the three peers, one unit each; each hands `c` the buffers that `c` will write at that peer.
* `rcv i k` of `c`: paid by the sender of transfer `i`; hands `c` the rows that arrived, at their values.
* `snd i k` of `c`: paid by the device itself; hands back the share of the rows lent to transfer `i`.
* `inn`, `out r`: the local copies; hand back both ends.

The order of the waits: barrier, then `rcv 0`, then `rcv 1` and `rcv 2`, then `rcv 3` and `rcv 4`; while it waits for one
of them a device owes only later ones. The other semaphores are paid by transfers already under way.
-/
module

public import proofs.«01_k».proof.Proof.Own

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peers -/

/-- A y peer's y peer is the device itself. -/
theorem yP_yP (c : Dev nD) : yP (yP c) = c := by revert c; decide
/-- An x peer's x peer is the device itself. -/
theorem xP_xP (c : Dev nD) : xP (xP c) = c := by revert c; decide
/-- A z peer's z peer is the device itself. -/
theorem zP_zP (c : Dev nD) : zP (zP c) = c := by revert c; decide
/-- The opposite corner is reached either way. -/
theorem xP_zP (c : Dev nD) : xP (zP c) = zP (xP c) := by revert c; decide

/-- Whom transfer `i` of device `c` goes to. -/
def tgt : Fin 5 → Dev nD → Dev nD
  | 0 => yP | 1 => xP | 2 => zP | 3 => zP | 4 => xP
/-- A target's target is the device itself. -/
theorem tgt_tgt (i : Fin 5) (c : Dev nD) : tgt i (tgt i c) = c := by revert i c; decide
/-- Who pays duty `j` of device `c`'s barrier. -/
def peer : Fin 3 → Dev nD → Dev nD
  | 0 => yP | 1 => xP | 2 => zP
/-- A peer's peer is the device itself. -/
theorem peer_peer (j : Fin 3) (c : Dev nD) : peer j (peer j c) = c := by revert j c; decide

/-! ## The semaphores by name -/

/-- The scoped semaphores: those of the sends, of the receives, of the copy in, of the copies out. -/
abbrev DTag : Type := (Fin 5 × Fin 8) ⊕ (Fin 5 × Fin 8) ⊕ Unit ⊕ Fin 4
/-- All semaphores: the barrier and the scoped ones. -/
abbrev Tag : Type := Unit ⊕ DTag

instance decTag : DecidableEq Tag := instDecidableEqSum
instance decDevTag : DecidableEq (Dev nD × Tag) := instDecidableEqProd
instance decDevDTag : DecidableEq (Dev nD × DTag) := instDecidableEqProd

@[match_pattern] abbrev bar : Tag := .inl ()
@[match_pattern] abbrev snd (i : Fin 5) (k : Fin 8) : Tag := .inr (.inl (i, k))
@[match_pattern] abbrev rcv (i : Fin 5) (k : Fin 8) : Tag := .inr (.inr (.inl (i, k)))
@[match_pattern] abbrev inn : Tag := .inr (.inr (.inr (.inl ())))
@[match_pattern] abbrev out (r : Fin 4) : Tag := .inr (.inr (.inr (.inr r)))

/-- The semaphore of a name. -/
abbrev osem : DTag → SemLoc sig
  | .inl (i, k) => .dma (sndS i k)
  | .inr (.inl (i, k)) => .dma (rcvS i k)
  | .inr (.inr (.inl ())) => .dma inS
  | .inr (.inr (.inr r)) => .dma (outS r)
/-- The semaphore of any name. -/
abbrev semOf : Tag → SemLoc sig
  | .inl () => .reg barS
  | .inr t => osem t

/-- The name of a semaphore. -/
def tagOf : SemLoc sig → Tag
  | .reg _ => bar
  | .dma q =>
    if q.val < 40 then snd ⟨q.val / 8 % 5, Nat.mod_lt _ (by decide)⟩ ⟨q.val % 8, Nat.mod_lt _ (by decide)⟩
    else if q.val < 80 then rcv ⟨(q.val - 40) / 8 % 5, Nat.mod_lt _ (by decide)⟩ ⟨q.val % 8, Nat.mod_lt _ (by decide)⟩
    else if q.val = 80 then inn
    else out ⟨(q.val - 81) % 4, Nat.mod_lt _ (by decide)⟩

/-- A semaphore's name is found from it. -/
theorem tagOf_semOf : ∀ t : Tag, tagOf (semOf t) = t
  | bar => rfl
  | snd i k => by revert i k; decide
  | rcv i k => by revert i k; decide
  | inn => by decide
  | out r => by revert r; decide

/-- Different names, different semaphores. -/
theorem semOf_injective : Function.Injective semOf := Function.LeftInverse.injective tagOf_semOf

/-- Semaphore `t` of device `c`. -/
abbrev cell (c : Dev nD) (t : Tag) : GSem nD τ sig := ((c.tc : Thread nD τ), semOf t)

/-- A cell tells its device and its name. -/
theorem cell_inj {c c' : Dev nD} {t t' : Tag} (h : cell c t = cell c' t') : c = c' ∧ t = t' :=
  ⟨congrArg (fun g : GSem nD τ sig => g.1.1) h, semOf_injective (congrArg Prod.snd h)⟩

/-! ## The amounts -/

/-- The credit of a chunk. -/
abbrev NRow : ℕ := (row yM 0).view.dmaCredit
/-- The credit of half a chunk. -/
abbrev NHalf : ℕ := (top drM 0).view.dmaCredit
/-- The credit of the copy in. -/
abbrev NIn : ℕ := (inM : Memref sig .tc .vmem S512x512 .f32).view.dmaCredit
/-- The credit of a copy out. -/
abbrev NOut : ℕ := (oBlk 0 0).view.dmaCredit

/-- The units of a transfer: a whole chunk, or half of one. -/
def xferAmt : Fin 5 → ℕ
  | 0 => NRow | 1 => NRow | 2 => NRow | 3 => NHalf | 4 => NHalf

/-- The units one duty contributes. -/
def amt : Tag → ℕ
  | bar => 1
  | snd i _ => xferAmt i
  | rcv i _ => xferAmt i
  | inn => NIn
  | out _ => NOut

/-- Each transfer has some credit. -/
theorem xferAmt_pos (i : Fin 5) : 0 < xferAmt i := by
  have hr : 0 < NRow := View.dmaCredit_pos _ (by decide)
  have hh : 0 < NHalf := View.dmaCredit_pos _ (by decide)
  fin_cases i <;> assumption

/-- Each semaphore's unit is positive. -/
theorem amt_pos : ∀ t : Tag, 0 < amt t
  | bar => Nat.one_pos
  | snd i _ => xferAmt_pos i
  | rcv i _ => xferAmt_pos i
  | inn => View.dmaCredit_pos _ (by decide)
  | out _ => View.dmaCredit_pos _ (by decide)

/-! ## The values -/

section Values

variable (m : (ℓ : Loc nD τ sig) → Buf (Elt F) ℓ)

/-- The device's quarter of its argument, that quarter rounded, and the sum with its y peer's. -/
def Xv (c : Dev nD) : Vec F S512x512 .f32 := (xBlk c).view.read (Elt F) (m ((c.tc : Thread nD τ).loc main_arg0))
/-- The device's quarter, rounded. -/
def Raw (c : Dev nD) : Vec F S512x512 .bf16 := k0_pay1 (Xv m c)
/-- The sum with its y peer's. -/
def Sm (c : Dev nD) : Vec F S512x512 .bf16 := addf (Raw m c) (Raw m (yP c))

/-- The device whose sum is quarter `r` of device `c`'s result. -/
def qDev : Fin 4 → Dev nD → Dev nD
  | 0 => fun c => c | 1 => xP | 2 => zP | 3 => fun c => zP (xP c)
/-- Quarter `r` of device `c`'s result. -/
def Qv (r : Fin 4) (c : Dev nD) : Vec F S512x512 .bf16 := Sm m (qDev r c)

/-- The buffer quarter `r` is flushed from, and the share of it the copy takes. -/
def srcM : Fin 4 → Memref sig .tc .vmem S512x512 .bf16
  | 0 => sumM | 1 => xrM | 2 => zrM | 3 => drM
/-- The share of a buffer that its copy out takes. -/
def srcQ : Fin 4 → PosShare TreeShare
  | 0 => fullShare.right.right | 1 => fullShare.right | 2 => fullShare.right | 3 => fullShare

end Values

/-! ## What the units hand over -/

section Pay

/-- Chunk `k` of a buffer at device `c`, whatever it holds; and its halves. -/
def anyRow (c : Dev nD) (b : Memref sig .tc .vmem S512x512 .bf16) (k : Fin 8) : sProp 𝕄 := iprop(∃ Y, ownsTc c (row b k) fullShare Y)
/-- The upper half of a chunk, at some contents. -/
def anyTop (c : Dev nD) (b : Memref sig .tc .vmem S512x512 .bf16) (k : Fin 8) : sProp 𝕄 := iprop(∃ Y, ownsTc c (top b k) fullShare Y)
/-- The lower half of a chunk, at some contents. -/
def anyBot (c : Dev nD) (b : Memref sig .tc .vmem S512x512 .bf16) (k : Fin 8) : sProp 𝕄 := iprop(∃ Y, ownsTc c (bot b k) fullShare Y)

instance anyRow_storable (c : Dev nD) (b) (k : Fin 8) : BI.Storable (upEmb : UEmb _ 𝕄) (anyRow (F := F) c b k) := by unfold anyRow; infer_instance
instance anyTop_storable (c : Dev nD) (b) (k : Fin 8) : BI.Storable (upEmb : UEmb _ 𝕄) (anyTop (F := F) c b k) := by unfold anyTop; infer_instance
instance anyBot_storable (c : Dev nD) (b) (k : Fin 8) : BI.Storable (upEmb : UEmb _ 𝕄) (anyBot (F := F) c b k) := by unfold anyBot; infer_instance

/-- What the peer `p` hands over with its barrier unit: along y its landing rows; along x those and the second halves
    of the corner's; along z those and the first halves. -/
def barPay : Fin 3 → Dev nD → sProp 𝕄
  | 0, p => bigSep Finset.univ fun k => anyRow p yM k
  | 1, p => bigSep Finset.univ fun k => iprop(anyRow p xrM k ∗ anyBot p drM k)
  | 2, p => bigSep Finset.univ fun k => iprop(anyRow p zrM k ∗ anyTop p drM k)

variable (m : (ℓ : Loc nD τ sig) → Buf (Elt F) ℓ)

/-- What device `c` lent to transfer `i` of chunk `k`. -/
def sndPay (c : Dev nD) (k : Fin 8) : Fin 5 → sProp 𝕄
  | 0 => ownsTc c (row rawM k) fullShare.left (rowOf (Raw m c) k)
  | 1 => ownsTc c (row sumM k) fullShare.left (rowOf (Sm m c) k)
  | 2 => ownsTc c (row sumM k) fullShare.right.left (rowOf (Sm m c) k)
  | 3 => ownsTc c (top xrM k) fullShare.left (topOf (Qv m 1 c) k)
  | 4 => ownsTc c (bot zrM k) fullShare.left (botOf (Qv m 2 c) k)

/-- What device `c` receives by transfer `i` of chunk `k`. -/
def rcvPay (c : Dev nD) (k : Fin 8) : Fin 5 → sProp 𝕄
  | 0 => ownsTc c (row yM k) fullShare (rowOf (Raw m (yP c)) k)
  | 1 => ownsTc c (row xrM k) fullShare (rowOf (Qv m 1 c) k)
  | 2 => ownsTc c (row zrM k) fullShare (rowOf (Qv m 2 c) k)
  | 3 => ownsTc c (top drM k) fullShare (topOf (Qv m 3 c) k)
  | 4 => ownsTc c (bot drM k) fullShare (botOf (Qv m 3 c) k)

/-- What duty `j` of semaphore `t` of device `c` hands over. -/
def pay (c : Dev nD) : Tag → Fin 3 → sProp 𝕄
  | bar, j => barPay j (peer j c)
  | snd i k, _ => sndPay m c k i
  | rcv i k, _ => rcvPay m c k i
  | inn, _ => iprop(ownsTc c inM fullShare (Xv m c) ∗ ownsTc c (xBlk c) fullShare (Xv m c))
  | out r, _ => iprop(ownsTc c (oBlk r c) fullShare (Qv m r c) ∗ ownsTc c (srcM r) (srcQ r) (Qv m r c))

instance barPay_storable : ∀ (j : Fin 3) (p : Dev nD), BI.Storable (upEmb : UEmb _ 𝕄) (barPay (F := F) j p)
  | 0, p => by unfold barPay; infer_instance
  | 1, p => by unfold barPay; infer_instance
  | 2, p => by unfold barPay; infer_instance

instance sndPay_storable (c : Dev nD) (k : Fin 8) : ∀ i, BI.Storable (upEmb : UEmb _ 𝕄) (sndPay (F := F) m c k i)
  | 0 => by unfold sndPay; infer_instance
  | 1 => by unfold sndPay; infer_instance
  | 2 => by unfold sndPay; infer_instance
  | 3 => by unfold sndPay; infer_instance
  | 4 => by unfold sndPay; infer_instance

instance rcvPay_storable (c : Dev nD) (k : Fin 8) : ∀ i, BI.Storable (upEmb : UEmb _ 𝕄) (rcvPay (F := F) m c k i)
  | 0 => by unfold rcvPay; infer_instance
  | 1 => by unfold rcvPay; infer_instance
  | 2 => by unfold rcvPay; infer_instance
  | 3 => by unfold rcvPay; infer_instance
  | 4 => by unfold rcvPay; infer_instance

instance pay_storable (c : Dev nD) : ∀ t j, BI.Storable (upEmb : UEmb _ 𝕄) (pay (F := F) m c t j)
  | bar, j => by unfold pay; infer_instance
  | snd i k, _ => by unfold pay; infer_instance
  | rcv i k, _ => by unfold pay; infer_instance
  | inn, _ => by unfold pay; infer_instance
  | out r, _ => by unfold pay; infer_instance

/-! ## The schedule -/

/-- The duties of a semaphore: three for the barrier, one for the others. -/
def duty : Tag → Finset (Fin 3)
  | .inl _ => Finset.univ
  | .inr _ => {0}

/-- Every semaphore of the TensorCores has one round. -/
def Rd : Schedule (GSem nD τ sig) (Fin 3) 𝕄 where
  duties g r := if r = 0 ∧ g.1.2 = .tc then duty (tagOf g.2) else ∅
  amount g _ _ := amt (tagOf g.2)
  payload g _ j := pay m g.1.1 (tagOf g.2) j
  amount_pos g _ _ _ := amt_pos _

instance Rd_payload_storable (g : GSem nD τ sig) (r : ℕ) (j : Fin 3) : BI.Storable (upEmb : UEmb _ 𝕄) ((Rd (F := F) m).payload g r j) :=
  pay_storable m g.1.1 (tagOf g.2) j

/-- The duties of a cell's round. -/
theorem duties_cell (c : Dev nD) (t : Tag) : (Rd (F := F) m).duties (cell c t) 0 = duty t := by
  show (if 0 = 0 ∧ (c.tc : Thread nD τ).2 = .tc then duty (tagOf (semOf t)) else ∅) = _
  rw [if_pos ⟨rfl, rfl⟩, tagOf_semOf]

/-- There is no later round. -/
theorem duties_later (g : GSem nD τ sig) : ∀ r, 1 ≤ r → (Rd (F := F) m).duties g r = ∅ := fun r hr => if_neg fun h => by omega

/-- The amount of a duty. -/
theorem amount_cell (c : Dev nD) (t : Tag) (j : Fin 3) : (Rd (F := F) m).amount (cell c t) 0 j = amt t := congrArg amt (tagOf_semOf t)

/-- The payload of a duty. -/
theorem payload_cell (c : Dev nD) (t : Tag) (j : Fin 3) : (Rd (F := F) m).payload (cell c t) 0 j = pay m c t j := congrArg (pay m c · j) (tagOf_semOf t)

/-- The barrier waits for three units. -/
theorem expect_bar (c : Dev nD) : (Rd (F := F) m).expect (cell c bar) 0 = 3 := by
  unfold Schedule.expect Schedule.amountOf
  rw [duties_cell, Finset.sum_congr rfl fun j _ => amount_cell m c bar j]
  rfl

/-- Each scoped semaphore waits for its one transfer. -/
theorem expect_dma (c : Dev nD) (t : DTag) : (Rd (F := F) m).expect (cell c (.inr t)) 0 = amt (.inr t) := by
  unfold Schedule.expect Schedule.amountOf
  rw [duties_cell]
  exact (Finset.sum_singleton _ _).trans (amount_cell m c _ _)

/-- All that the barrier's round hands over. -/
theorem rest_bar (c : Dev nD) :
    bigSep ((Rd (F := F) m).duties (cell c bar) 0 \ ∅) (fun j => (Rd (F := F) m).payload (cell c bar) 0 j)
      = iprop(barPay 0 (yP c) ∗ barPay 1 (xP c) ∗ barPay 2 (zP c)) := by
  rw [Finset.sdiff_empty, duties_cell, bigSep_congr fun j _ => payload_cell m c bar j]
  exact bigSep_univ_eq_bigSepL ([0, 1, 2] : List (Fin 3)) (by decide) (by decide) _

/-- All that another semaphore's round hands over. -/
theorem rest_dma (c : Dev nD) (t : DTag) :
    bigSep ((Rd (F := F) m).duties (cell c (.inr t)) 0 \ ∅) (fun j => (Rd (F := F) m).payload (cell c (.inr t)) 0 j) = pay m c (.inr t) 0 := by
  rw [Finset.sdiff_empty, duties_cell, bigSep_congr fun j _ => payload_cell m c (.inr t) j]
  exact bigSep_singleton

end Pay

/-! ## The levels and what is owed -/

/-- Each cell of a TensorCore has one level. -/
def L (g : GSem nD τ sig) : Finset Unit := if g.1.2 = .tc then {()} else ∅
/-- How late a semaphore is waited on. -/
def lvl : Tag → ℕ
  | bar => 1
  | rcv 0 _ => 2
  | rcv 1 _ => 3
  | rcv 2 _ => 3
  | rcv 3 _ => 4
  | rcv 4 _ => 4
  | _ => 0
/-- The level of a cell: its stage in the body. -/
def lv (g : GSem nD τ sig) (_ : Unit) : ℕ := lvl (tagOf g.2)

/-- No other cell has a level. -/
theorem L_of_ne (g : GSem nD τ sig) (h : g.1.2 ≠ .tc) : L g = ∅ := if_neg h
/-- A TensorCore's cell has one. -/
theorem L_tc (c : Dev nD) (sm : SemLoc sig) : L ((c.tc : Thread nD τ), sm) = {()} := if_pos rfl
/-- A cell's level by its name. -/
theorem lv_cell (c : Dev nD) (t : Tag) (u : Unit) : lv (cell c t) u = lvl t := congrArg lvl (tagOf_semOf t)

/-- One unit owed to the barrier of a device. -/
def owBar (p : Dev nD) : CellTallies nD τ sig Unit := tallyAt (cell p bar) () 1
/-- Transfer `i` of chunk `k` owed by device `c`. -/
def ow (i : Fin 5) (c : Dev nD) (k : Fin 8) : CellTallies nD τ sig Unit := tallyAt (cell (tgt i c) (rcv i k)) () (xferAmt i)

/-- What device `c` owes after the signals, after the rows sent along y, after the sums sent. -/
def owF (c : Dev nD) : CellTallies nD τ sig Unit := (∑ k, (ow 3 c k + ow 4 c k)) + 0
/-- What is owed from the sums on. -/
def owS (c : Dev nD) : CellTallies nD τ sig Unit := (∑ k, (ow 1 c k + ow 2 c k)) + owF c
/-- What is owed from the y sends on. -/
def owY (c : Dev nD) : CellTallies nD τ sig Unit := (∑ k, ow 0 c k) + owS c
/-- What device `c` owes at launch. -/
def O₀ (c : Dev nD) : CellTallies nD τ sig Unit := ((owY c + owBar (zP c)) + owBar (xP c)) + owBar (yP c)

/-- Everything owed lies above level `n`. -/
def Above (n : ℕ) (O : CellTallies nD τ sig Unit) : Prop := ∀ g u, 0 < O g u → g.1.2 = .tc ∧ n < lv g u

/-- Nothing owed is above every level. -/
theorem above_zero (n : ℕ) : Above n 0 := fun g u h => absurd h (Nat.lt_irrefl 0)

/-- Two debts above a level. -/
theorem above_add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0

/-- Debts above a level, summed. -/
theorem above_sum {n : ℕ} {I : Type} (s : Finset I) (f : I → CellTallies nD τ sig Unit) (h : ∀ i, Above n (f i)) : Above n (∑ i ∈ s, f i) := by
  classical
  induction s using Finset.induction_on with
  | empty => rw [Finset.sum_empty]; exact above_zero n
  | insert a s ha ih => rw [Finset.sum_insert ha]; exact above_add (h a) ih

/-- One debt above a level. -/
theorem above_tally {n : ℕ} (p : Dev nD) (t : Tag) (k : ℕ) (h : n < lvl t) : Above n (tallyAt (cell p t) () k) := fun g u hg => by
  rw [tallyAt_apply] at hg
  by_cases hc : g = cell p t ∧ u = ()
  · rw [hc.1, lv_cell]; exact ⟨rfl, h⟩
  · rw [if_neg hc] at hg; exact absurd hg (Nat.lt_irrefl 0)

/-- Above a level, so above a lower one. -/
theorem above_mono {n n' : ℕ} (h : n ≤ n') {O : CellTallies nD τ sig Unit} (hO : Above n' O) : Above n O := fun g u hg =>
  ⟨(hO g u hg).1, lt_of_le_of_lt h (hO g u hg).2⟩

/-- A transfer's debt is above what is below its level. -/
theorem above_ow (i : Fin 5) (c : Dev nD) (k : Fin 8) (n : ℕ) (h : n < lvl (rcv i k)) : Above n (ow i c k) := above_tally _ _ _ h

/-- The forwards' debts are above level 3. -/
theorem above_owF (c : Dev nD) : Above 3 (owF c) :=
  above_add (above_sum _ _ fun k => above_add (above_ow 3 c k 3 (by show 3 < 4; decide)) (above_ow 4 c k 3 (by show 3 < 4; decide))) (above_zero 3)
/-- The debts from the sums on are above level 2. -/
theorem above_owS (c : Dev nD) : Above 2 (owS c) :=
  above_add (above_sum _ _ fun k => above_add (above_ow 1 c k 2 (by show 2 < 3; decide)) (above_ow 2 c k 2 (by show 2 < 3; decide))) (above_mono (by decide) (above_owF c))
/-- The debts from the y sends on are above level 1. -/
theorem above_owY (c : Dev nD) : Above 1 (owY c) :=
  above_add (above_sum _ _ fun k => above_ow 0 c k 1 (by show 1 < 2; decide)) (above_mono (by decide) (above_owS c))
/-- All debts are above level 0. -/
theorem above_O₀ (c : Dev nD) : Above 0 (O₀ c) :=
  above_add (above_add (above_add (above_mono (by decide) (above_owY c)) (above_tally _ _ _ (by decide))) (above_tally _ _ _ (by decide)))
    (above_tally _ _ _ (by decide))

/-- A device may wait on a semaphore at or below the level its debts lie above. -/
theorem mayWait_of_above (c : Dev nD) (sm : SemLoc sig) {n : ℕ} {O : CellTallies nD τ sig Unit} (hn : lvl (tagOf sm) ≤ n) (hO : Above n O) :
    (levAts L lv : sProp 𝕄) ⊢ MayWait (c.tc : Thread nD τ) sm () O :=
  MayOwe.of_cut (L := L) (lev := lv) n (fun p hp => by rw [Finset.mem_singleton.mp hp, L_tc]; exact Finset.mem_singleton_self _)
    (fun g u hg => by
      show u ∈ L g
      rw [show L g = {()} from if_pos (hO g u hg).1]; exact Finset.mem_singleton_self _)
    (fun p hp => by rw [Finset.mem_singleton.mp hp]; exact hn)
    (fun g u hg => (hO g u hg).2)

end Cert.AllReduce

end
-- ==== Proof.Rules.lean ====
/-
The statements that talk to a semaphore, each at the protocol's names: a wait, a transfer to a peer, a local copy, a
signal; and the rule for a loop over the chunks.
-/
module

public import proofs.«01_k».proof.Proof.Protocol

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Tag → ℕ)

/-- What every device knows: each semaphore of each device follows the protocol and stands at round 0 or later; and the
    levels. -/
def records : sProp 𝕄 :=
  iprop((bigSep Finset.univ fun ct : Dev nD × Tag => cellInv ER (Rd m) (K ct) (cell ct.1 ct.2))
    ∗ (bigSep Finset.univ fun ct : Dev nD × Tag => reached ER (cell ct.1 ct.2) 0) ∗ levAts L lv)

instance records_persistent : BI.Persistent (records m K) := by unfold records; infer_instance

/-- Each cell's invariant is in the records. -/
theorem records_inv (c : Dev nD) (t : Tag) : records m K ⊢ cellInv ER (Rd m) (K (c, t)) (cell c t) := by
  have h : (bigSep Finset.univ fun ct : Dev nD × Tag => (cellInv ER (Rd m) (K ct) (cell ct.1 ct.2) : sProp 𝕄))
      ⊢ cellInv ER (Rd m) (K (c, t)) (cell c t) := bigSep_elim (Finset.mem_univ (c, t))
  unfold records
  iintro ⟨H, -, -⟩
  iapply h; iexact H

/-- Each cell's round is reached. -/
theorem records_reached (c : Dev nD) (t : Tag) : records m K ⊢ reached ER (cell c t) 0 := by
  have h : (bigSep Finset.univ fun ct : Dev nD × Tag => (reached ER (cell ct.1 ct.2) 0 : sProp 𝕄)) ⊢ reached ER (cell c t) 0 :=
    bigSep_elim (Finset.mem_univ (c, t))
  unfold records
  iintro ⟨-, H, -⟩
  iapply h; iexact H

/-- The levels are in the records. -/
theorem records_lev : records m K ⊢ levAts L lv := by
  unfold records
  iintro ⟨-, -, H⟩
  iexact H

/-- The debts of a device, whatever it has waited on. -/
def owesW (c : Dev nD) (O : CellTallies nD τ sig Unit) : sProp 𝕄 := iprop(∃ W, owes (c.tc : Thread nD τ) O W)

/-- The right to wait on semaphore `t` for its whole round. -/
def due (c : Dev nD) (t : DTag) : sProp 𝕄 := iprop(atPos ER (cell c (.inr t)) 0 ∅ 0 ∗ cred (tallyAt (cell c (.inr t)) () (amt (.inr t))))

/-- A wait on a transfer's semaphore: `P`, made of what the transfer hands over, and the semaphore back at zero. -/
theorem wait_dma (c : Dev nD) (t : DTag) {q : DmaSem sig} (ht : semOf (.inr t) = .dma q) {sp sp' : Space} {sh sh' : Shape} {e e' : EltTy}
    {src : Memref sig .tc sp sh e} {dst : Memref sig .tc sp' sh' e'} {h1 h2} (hN : dst.view.dmaCredit = amt (.inr t))
    {P : sProp 𝕄} (hP : pay m c (.inr t) 0 ⊢ P)
    {n : ℕ} {O : CellTallies nD τ sig Unit} (hn : lvl (.inr t) ≤ n) (hO : Above n O) {k : PUnit → TProg F} {Kt : PUnit → sProp 𝕄} :
    iprop(records m K ∗ due c t ∗ owesW c O)
      ⊢ iprop(((P ∗ semVal (cell c (.inr t)) 0 ∗ owesW c O) -∗ wpc c (k ⟨⟩) Kt)
          -∗ wpc c (.op (.waitDma2 q src dst h1 h2) k) Kt) := by
  have hc : cell c (.inr t) = ((c.tc : Thread nD τ), SemLoc.dma q) := congrArg (Prod.mk (c.tc : Thread nD τ)) ht
  have hexp := expect_dma (F := F) m c t
  have hrest := rest_dma (F := F) m c t
  have hinv := records_inv m K c (.inr t)
  have hlv : lvl (tagOf (SemLoc.dma q)) ≤ n := by rw [← ht, tagOf_semOf]; exact hn
  unfold due owesW
  rw [← hN] at hexp ⊢
  rw [hc] at hexp hrest hinv ⊢
  iintro ⟨#HR, ⟨Hat, Hcr⟩, ⟨%W, HO⟩⟩ Hk
  iapply (Rounds.wp_wait_rest_token 𝒱₀ ER (Rd m) (c.tc : Thread nD τ) none (κ := K (c, .inr t))
      (wpE_waitDma2_eq 𝒱₀ (c.tc : Thread nD τ) none Set.univ) (Set.mem_univ _) () (O := O) (W := W) (R := 0) (m := 0) (T := ∅)
      (by rw [Nat.zero_add, hexp])) $$ [Hcr HO Hat]
  · isplitr; · iapply hinv; iexact HR
    isplitl [Hcr]; · iexact Hcr
    isplitl [HO]; · iexact HO
    isplitr; · iapply (mayWait_of_above c (.dma q) hlv hO); iapply (records_lev m K); iexact HR
    iexact Hat
  iintro ⟨HO, Hat, -, Hpay⟩
  imod (Rounds.cell_close ER (Rd m) (Set.mem_univ (K (c, .inr t))) (fun h => h) (R := 0 + 1) (duties_later m _)) $$ [Hat] with Hz
  · isplitr; · iapply hinv; iexact HR
    iexact Hat
  ihave Hp := ((Entails.of_eq hrest).trans hP) $$ Hpay
  iapply Hk
  isplitl [Hp]; · iexact Hp
  isplitl [Hz]; · iexact Hz
  iexists _; iexact HO

/-- The wait on the barrier: what the three peers hand over, and the semaphore back at zero. -/
theorem wait_bar (c : Dev nD) {w : ℕ} (hw : w = 3) {O : CellTallies nD τ sig Unit} (hO : Above 1 O) {k : PUnit → TProg F} {Kt : PUnit → sProp 𝕄} :
    iprop(records m K ∗ atPos ER (cell c bar) 0 ∅ 0 ∗ cred (tallyAt (cell c bar) () 3) ∗ owesW c O)
      ⊢ iprop((((barPay 0 (yP c) ∗ barPay 1 (xP c) ∗ barPay 2 (zP c)) ∗ semVal (cell c bar) 0 ∗ owesW c O) -∗ wpc c (k ⟨⟩) Kt)
          -∗ wpc c (.op (.semWait barS w) k) Kt) := by
  subst hw
  unfold owesW
  iintro ⟨#HR, Hat, Hcr, ⟨%W, HO⟩⟩ Hk
  iapply (Rounds.wp_wait_rest_token 𝒱₀ ER (Rd m) (c.tc : Thread nD τ) none (κ := K (c, bar))
      (wpE_semWait_eq 𝒱₀ (c.tc : Thread nD τ) none Set.univ) (Set.mem_univ _) () (O := O) (W := W) (R := 0) (m := 0) (T := ∅)
      (by rw [Nat.zero_add]; exact (expect_bar m c).symm)) $$ [Hcr HO Hat]
  · isplitr; · iapply (records_inv m K c bar); iexact HR
    isplitl [Hcr]; · iexact Hcr
    isplitl [HO]; · iexact HO
    isplitr; · iapply (mayWait_of_above c (.reg barS) (n := 1) (show lvl bar ≤ 1 from Nat.le_refl 1) hO); iapply (records_lev m K); iexact HR
    iexact Hat
  iintro ⟨HO, Hat, -, Hpay⟩
  imod (Rounds.cell_close ER (Rd m) (Set.mem_univ (K (c, bar))) (fun h => h) (R := 0 + 1) (duties_later m (cell c bar))) $$ [Hat] with Hz
  · isplitr; · iapply (records_inv m K c bar); iexact HR
    iexact Hat
  ihave Hp := (Entails.of_eq (rest_bar m c)) $$ Hpay
  iapply Hk
  isplitl [Hp]; · iexact Hp
  isplitl [Hz]; · iexact Hz
  iexists _; iexact HO

/-- A signal to the barrier of peer `j`, handing over the buffers that peer will write. -/
theorem signal_bar (c : Dev nD) (j : Fin 3) {p : Dev nD} (hp : p = peer j c) {w : ℕ} (hw : w = 1) {O : CellTallies nD τ sig Unit}
    {k : PUnit → TProg F} {Kt : PUnit → sProp 𝕄} :
    iprop(records m K ∗ barPay j c ∗ owesW c (O + owBar (peer j c)) ∗ dutyTok ER (cell (peer j c) bar) 0 j)
      ⊢ iprop((owesW c O -∗ wpc c (k ⟨⟩) Kt) -∗ wpc c (.op (.semSignal (Dev.tc p) barS w) k) Kt) := by
  subst hp
  subst hw
  have hpay : barPay (F := F) j c = (Rd m).payload (cell (peer j c) bar) 0 j := by
    rw [payload_cell]
    show _ = barPay j (peer j (peer j c))
    rw [peer_peer]
  rw [hpay]
  unfold owesW
  iintro ⟨#HR, Hp, ⟨%W, HO⟩, Htok⟩ Hk
  iapply (Rounds.wp_signal 𝒱₀ ER (Rd m) (c.tc : Thread nD τ) none (dst := ((peer j c).tc : Thread nD τ)) (sem := barS) (κ := K (peer j c, bar)) (r := 0)
      (d := j) (by show j ∈ (Rd m).duties (cell (peer j c) bar) 0; rw [duties_cell]; exact Finset.mem_univ _) (amount_cell m (peer j c) bar j) () O rfl)
    $$ [HO Htok Hp]
  · isplitr; · iapply (records_inv m K (peer j c) bar); iexact HR
    isplitl [HO]; · iexact HO
    isplitl [Htok]; · iexact Htok
    isplitl [Hp]; · iexact Hp
    iapply (records_reached m K (peer j c) bar); iexact HR
  iintro HO
  iapply Hk
  iexists _; iexact HO

/-- Transfer `i` of chunk `j`, of rows owned at values `X`, into rows of the peer's that this device was handed. -/
theorem send_dma (c : Dev nD) (i : Fin 5) (j : Fin 8) {p : Dev nD} (hp : p = tgt i c) {sh : Shape} {src dst : Memref sig .tc .vmem sh .bf16} {h h1 h2 h3}
    {q : PosShare TreeShare} {X : sh.Idx → Elt F .bf16} (hN : dst.view.dmaCredit = xferAmt i)
    (hp1 : ownsTc c src q X ⊢ sndPay m c j i) (hp2 : ownsTc (tgt i c) dst fullShare X ⊢ rcvPay m (tgt i c) j i)
    {O : CellTallies nD τ sig Unit} {k : PUnit → TProg F} {Kt : PUnit → sProp 𝕄} :
    iprop(records m K ∗ ownsTc c src q X ∗ (∃ Y, ownsTc (tgt i c) dst fullShare Y) ∗ owesW c (ow i c j + O)
        ∗ dutyTok ER (cell c (snd i j)) 0 0 ∗ dutyTok ER (cell (tgt i c) (rcv i j)) 0 0)
      ⊢ iprop(((cred (tallyAt (cell c (snd i j)) () (xferAmt i)) ∗ owesW c O) -∗ wpc c (k ⟨⟩) Kt)
          -∗ wpc c (.op (.enqueueDma src (.remote (Dev.tc p) dst (.dma (sndS i j)) h) (.dma (rcvS i j)) h1 h2 h3) k) Kt) := by
  subst hp
  unfold owesW ownsTc owns
  iintro ⟨#HR, ⟨%fs, %hfs, Hs⟩, ⟨%Y, ⟨%fd, -, Hd⟩⟩, ⟨%W, HO⟩, Ht1, Ht2⟩ Hk
  subst hfs
  iapply (Rounds.wp_send_pointsTo 𝒱₀ ER (Rd m) (c.tc : Thread nD τ) none (c' := ((tgt i c).tc : Thread nD τ)) (κ₁ := K (c, snd i j)) (κ₂ := K (tgt i c, rcv i j))
      (r₁ := 0) (r₂ := 0) (d₁ := 0) (d₂ := 0) (fd := fd) (fs := fs) (q := q) (src := src) (dst := dst) (sS := .dma (sndS i j)) (sem := .dma (rcvS i j))
      (by show (0 : Fin 3) ∈ (Rd m).duties (cell c (snd i j)) 0; rw [duties_cell]; exact Finset.mem_singleton_self _)
      (by show (0 : Fin 3) ∈ (Rd m).duties (cell (tgt i c) (rcv i j)) 0; rw [duties_cell]; exact Finset.mem_singleton_self _)
      () () (xferAmt i) hN (amount_cell m c (snd i j) 0) (amount_cell m (tgt i c) (rcv i j) 0) O (add_comm _ _) (W := W)
      ((owns_intro (c.tc : Thread nD τ) src q fs).trans (hp1.trans (Entails.of_eq (payload_cell m c (snd i j) 0).symm)))
      (by
        refine BIBase.Entails.trans ?_ (hp2.trans (Entails.of_eq (payload_cell m (tgt i c) (rcv i j) 0).symm))
        refine (owns_intro ((tgt i c).tc : Thread nD τ) dst fullShare _).trans (Entails.of_eq ?_)
        rw [View.read_write_univ])) $$ [Hs Hd HO Ht1 Ht2]
  · isplitr; · iapply (records_inv m K c (snd i j)); iexact HR
    isplitr; · iapply (records_inv m K (tgt i c) (rcv i j)); iexact HR
    isplitl [Hs]; · iexact Hs
    isplitl [Hd]; · iexact Hd
    isplitl [HO]; · iexact HO
    isplitl [Ht1]; · iexact Ht1
    isplitr; · iapply (records_reached m K c (snd i j)); iexact HR
    isplitl [Ht2]; · iexact Ht2
    iapply (records_reached m K (tgt i c) (rcv i j)); iexact HR
  iintro ⟨Hc, HO⟩
  iapply Hk
  isplitl [Hc]; · iexact Hc
  iexists _; iexact HO

/-- A local copy of a memref owned at values `X`. -/
theorem copy_dma (c : Dev nD) (t : DTag) {s : DmaSem sig} (ht : semOf (.inr t) = .dma s) {sp sp' : Space} {sh : Shape} {e : EltTy}
    {src : Memref sig .tc sp sh e} {dst : Memref sig .tc sp' sh e} {h1 h2 h3} {q : PosShare TreeShare} {X : sh.Idx → Elt F e}
    (hN : dst.view.dmaCredit = amt (.inr t))
    (hpay : iprop(ownsTc c dst fullShare X ∗ ownsTc c src q X) ⊢ pay m c (.inr t) 0) {k : PUnit → TProg F} {Kt : PUnit → sProp 𝕄} :
    iprop(records m K ∗ ownsTc c src q X ∗ (∃ Y, ownsTc c dst fullShare Y) ∗ dutyTok ER (cell c (.inr t)) 0 0)
      ⊢ iprop((cred (tallyAt (cell c (.inr t)) () (amt (.inr t))) -∗ wpc c (k ⟨⟩) Kt)
          -∗ wpc c (.op (.enqueueDma src (.here dst) (.dma s) h1 h2 h3) k) Kt) := by
  have hc : cell c (.inr t) = ((c.tc : Thread nD τ), SemLoc.dma s) := congrArg (Prod.mk (c.tc : Thread nD τ)) ht
  have hinv := records_inv m K c (.inr t)
  have hrch := records_reached m K c (.inr t)
  have hd : (0 : Fin 3) ∈ (Rd (F := F) m).duties (cell c (.inr t)) 0 := by rw [duties_cell]; exact Finset.mem_singleton_self _
  have ha := amount_cell (F := F) m c (.inr t) 0
  have hpl := payload_cell (F := F) m c (.inr t) 0
  rw [hc] at hinv hrch hd ha hpl ⊢
  unfold ownsTc owns
  iintro ⟨#HR, ⟨%fs, %hfs, Hs⟩, ⟨%Y, ⟨%fd, -, Hd⟩⟩, Ht⟩ Hk
  subst hfs
  iapply (Rounds.wp_copy_pointsTo 𝒱₀ ER (Rd m) (c.tc : Thread nD τ) none (κ := K (c, .inr t)) (r := 0) (d := 0) (fd := fd) (fs := fs) (q := q)
      (src := src) (dst := dst) (sem := .dma s) hd () (amt (.inr t)) hN ha
      (by
        refine BIBase.Entails.trans ?_ (hpay.trans (Entails.of_eq hpl.symm))
        refine Laws.sep_mono ((owns_intro (c.tc : Thread nD τ) dst fullShare _).trans (Entails.of_eq ?_)) (owns_intro (c.tc : Thread nD τ) src q fs)
        rw [View.read_write_univ])) $$ [Hs Hd Ht]
  · isplitr; · iapply hinv; iexact HR
    isplitl [Hs]; · iexact Hs
    isplitl [Hd]; · iexact Hd
    isplitl [Ht]; · iexact Ht
    iapply hrch; iexact HR
  iexact Hk

/-- The end of a program. -/
theorem wpc_end (c : Dev nD) {Kt : PUnit → sProp 𝕄} : Kt ⟨⟩ ⊢ wpc c (Prog.ret ⟨⟩) Kt := by
  unfold wpc
  rw [wp_ret]
  iintro H
  imodintro
  iexact H

/-! ## The loops -/

/-- A loop over a list of distinct chunks whose step turns `A k` into `B k` and pays `t k`, in the presence of the
    persistent `R`; the debts that remain, and those of the steps to come, lie above level `n`. -/
theorem each_list (c : Dev nD) {R : sProp 𝕄} [BI.Persistent R] {A B : Fin 8 → sProp 𝕄} {t : Fin 8 → CellTallies nD τ sig Unit} {n : ℕ} {f : Fin 8 → TProg F}
    {O : CellTallies nD τ sig Unit} (hO : Above n O) (ht : ∀ k, Above n (t k))
    (step : ∀ k O', Above n O' → ∀ Kt : PUnit → sProp 𝕄, iprop(R ∗ A k ∗ owesW c (t k + O')) ⊢ iprop(((B k ∗ owesW c O') -∗ Kt ⟨⟩) -∗ wpc c (f k) Kt))
    (ks : List (Fin 8)) (hks : ks.Nodup) (Kt : PUnit → sProp 𝕄) :
    iprop(R ∗ bigSep ks.toFinset A ∗ owesW c ((∑ k ∈ ks.toFinset, t k) + O)) ⊢ iprop(((bigSep ks.toFinset B ∗ owesW c O) -∗ Kt ⟨⟩) -∗ wpc c (each f ks) Kt) := by
  induction ks generalizing Kt with
  | nil =>
    rw [List.toFinset_nil, Finset.sum_empty, zero_add, bigSep_empty, bigSep_empty]
    show _ ⊢ iprop(_ -∗ wp frame _ Set.univ (Prog.ret PUnit.unit) Kt)
    rw [wp_ret]
    iintro ⟨-, -, HO⟩ Hk
    imodintro
    iapply Hk
    isplitr; · iempintro
    iexact HO
  | cons k ks ih =>
    have hk : k ∉ ks.toFinset := fun h => (List.nodup_cons.mp hks).1 (List.mem_toFinset.mp h)
    have ins (Φ : Fin 8 → sProp 𝕄) : bigSep (insert k ks.toFinset) Φ = iprop(Φ k ∗ bigSep ks.toFinset Φ) := bigSep_insert hk
    rw [List.toFinset_cons, Finset.sum_insert hk, ins, ins, add_assoc]
    show _ ⊢ iprop(_ -∗ wp frame _ Set.univ (f k >>= fun _ => each f ks) Kt)
    rw [wp_bind]
    iintro ⟨#HR, ⟨HA, HAs⟩, HO⟩ Hk
    iapply (step k _ (above_add (above_sum _ _ ht) hO) _) $$ [HA HO]
    · isplitr; · iexact HR
      isplitl [HA] <;> iassumption
    iintro ⟨HB, HO⟩
    iapply (ih (List.nodup_cons.mp hks).2 Kt) $$ [HAs HO]
    · isplitr; · iexact HR
      isplitl [HAs] <;> iassumption
    iintro ⟨HBs, HO⟩
    iapply Hk
    isplitl [HB HBs]
    · isplitl [HB] <;> iassumption
    iexact HO

/-- The list of chunks has every chunk. -/
theorem chunks_toFinset : chunks.toFinset = Finset.univ := by decide
/-- The list of chunks has each once. -/
theorem chunks_nodup : chunks.Nodup := by decide

/-- The loop over all chunks. -/
theorem each_chunk (c : Dev nD) {R : sProp 𝕄} [BI.Persistent R] {A B : Fin 8 → sProp 𝕄} {t : Fin 8 → CellTallies nD τ sig Unit} {n : ℕ} {f : Fin 8 → TProg F}
    {O : CellTallies nD τ sig Unit} (hO : Above n O) (ht : ∀ k, Above n (t k))
    (step : ∀ k O', Above n O' → ∀ Kt : PUnit → sProp 𝕄, iprop(R ∗ A k ∗ owesW c (t k + O')) ⊢ iprop(((B k ∗ owesW c O') -∗ Kt ⟨⟩) -∗ wpc c (f k) Kt))
    (Kt : PUnit → sProp 𝕄) :
    iprop(R ∗ bigSep Finset.univ A ∗ owesW c ((∑ k, t k) + O)) ⊢ iprop(((bigSep Finset.univ B ∗ owesW c O) -∗ Kt ⟨⟩) -∗ wpc c (each f chunks) Kt) := by
  have h := each_list c hO ht step chunks chunks_nodup Kt
  rw [chunks_toFinset] at h
  exact h

/-- The loop of a step that owes nothing. -/
theorem each_quiet (c : Dev nD) {R : sProp 𝕄} [BI.Persistent R] {A B : Fin 8 → sProp 𝕄} {n : ℕ} {f : Fin 8 → TProg F}
    {O : CellTallies nD τ sig Unit} (hO : Above n O)
    (step : ∀ k O', Above n O' → ∀ Kt : PUnit → sProp 𝕄, iprop(R ∗ A k ∗ owesW c O') ⊢ iprop(((B k ∗ owesW c O') -∗ Kt ⟨⟩) -∗ wpc c (f k) Kt))
    (Kt : PUnit → sProp 𝕄) :
    iprop(R ∗ bigSep Finset.univ A ∗ owesW c O) ⊢ iprop(((bigSep Finset.univ B ∗ owesW c O) -∗ Kt ⟨⟩) -∗ wpc c (each f chunks) Kt) := by
  have h := each_chunk c (t := fun _ => 0) hO (fun _ => above_zero n) (fun k O' hO' Kt => by rw [zero_add]; exact step k O' hO' Kt) Kt
  rw [Finset.sum_const_zero, zero_add] at h
  exact h

end Cert.AllReduce

end
-- ==== Proof.Steps.lean ====
/-
One turn of each loop of the body, at a symbolic chunk: what the turn takes and what it gives back.
-/
module

public import proofs.«01_k».proof.Proof.Rules
public import Idealize.ShloMosaic.Lib.Pipeline.Value

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Tag → ℕ) (c : Dev nD)

/-! ## The values at the other end -/

/-- What the y peer receives is this device's rounded quarter. -/
theorem raw_at_y : Raw m (yP (yP c)) = Raw m c := by rw [yP_yP]
/-- What the x peer receives is this device's sum. -/
theorem sum_at_x : Qv m 1 (xP c) = Sm m c := by show Sm m (xP (xP c)) = _; rw [xP_xP]
/-- What the z peer receives is this device's sum. -/
theorem sum_at_z : Qv m 2 (zP c) = Sm m c := by show Sm m (zP (zP c)) = _; rw [zP_zP]
/-- What `c` got from its x peer is what its z peer is to hold of the opposite corner, -/
theorem corner_at_z : Qv m 3 (zP c) = Qv m 1 c := by show Sm m (zP (xP (zP c))) = Sm m (xP c); rw [xP_zP, zP_zP]
/-- and what it got from its z peer is what its x peer is to hold of the opposite corner. -/
theorem corner_at_x : Qv m 3 (xP c) = Qv m 2 c := by show Sm m (zP (xP (xP c))) = Sm m (zP c); rw [xP_xP]

/-- The chunk of the sum is made of the chunks of the summands. -/
theorem add_rows (k : Fin 8) : k0_pay2 (rowOf (Raw m c) k) (rowOf (Raw m (yP c)) k) = rowOf (Sm m c) k := by
  exact shapeCast_self _ _

/-- The chunk as stored is its three shares, for the two sends and the flush. -/
theorem sum_parts (k : Fin 8) :
    (ownsTc c (row sumM k) fullShare (k0_pay2 (rowOf (Raw m c) k) (rowOf (Raw m (yP c)) k)) : sProp 𝕄)
      = iprop(ownsTc c (row sumM k) fullShare.left (rowOf (Sm m c) k) ∗ ownsTc c (row sumM k) fullShare.right.left (rowOf (Sm m c) k)
          ∗ ownsTc c (row sumM k) fullShare.right.right (rowOf (Sm m c) k)) := by
  rw [add_rows, owns_split c (row sumM k) fullShare, owns_split c (row sumM k) fullShare.right]

/-! ## The tokens and the credit of one transfer -/

/-- The right to make transfer `i` of chunk `k`: the duty at either end. -/
def toks (i : Fin 5) (k : Fin 8) : sProp 𝕄 := iprop(dutyTok ER (cell c (snd i k)) 0 0 ∗ dutyTok ER (cell (tgt i c) (rcv i k)) 0 0)
/-- The credit to wait for transfer `i` of chunk `k` to have left. -/
def crd (i : Fin 5) (k : Fin 8) : sProp 𝕄 := cred (tallyAt (cell c (snd i k)) () (xferAmt i))
/-- Semaphore `t` at zero. -/
def zed (t : DTag) : sProp 𝕄 := semVal (cell c (.inr t)) 0

/-- The names of the scoped semaphores. -/
abbrev dsnd (i : Fin 5) (k : Fin 8) : DTag := .inl (i, k)
/-- The receive semaphores. -/
abbrev drcv (i : Fin 5) (k : Fin 8) : DTag := .inr (.inl (i, k))
/-- The copy in's semaphore. -/
abbrev dinn : DTag := .inr (.inr (.inl ()))
/-- The copies out's semaphores. -/
abbrev dout (r : Fin 4) : DTag := .inr (.inr (.inr r))

/-! ## Along y -/

/-- What chunk `k`'s y send needs. -/
def preY (k : Fin 8) : sProp 𝕄 := iprop(ownsTc c (row rawM k) fullShare.left (rowOf (Raw m c) k) ∗ anyRow (yP c) yM k ∗ toks c 0 k)

/-- Chunk `k`'s y send. -/
theorem step_y (k : Fin 8) (O : CellTallies nD τ sig Unit) (Kt : PUnit → sProp 𝕄) :
    iprop(records m K ∗ preY m c k ∗ owesW c (ow 0 c k + O)) ⊢ iprop(((crd c 0 k ∗ owesW c O) -∗ Kt ⟨⟩) -∗ wpc c (stepY c k) Kt) := by
  simp only [stepY, sendRow, Prog.lift, Prog.bind_op, Prog.bind_ret, Prog.pure_eq_ret]
  unfold preY anyRow toks crd
  iintro ⟨#HR, ⟨Hs, Hd, Ht1, Ht2⟩, HO⟩ Hk
  iapply (send_dma m K c 0 k (p := yP c) rfl (dst := row yM k) (X := rowOf (Raw m c) k) (q := fullShare.left) rfl (BIBase.Entails.rfl)
    (Entails.of_eq (by unfold rcvPay; rw [show yP (tgt 0 c) = c from yP_yP c])) (O := O)) $$ [Hs Hd Ht1 Ht2 HO]
  · isplitr; · iexact HR
    isplitl [Hs]; · iexact Hs
    isplitl [Hd]; · iexact Hd
    isplitl [HO]; · iexact HO
    isplitl [Ht1] <;> iassumption
  iintro H
  iapply (wpc_end c)
  iapply Hk; iexact H

/-! ## The sum, and along x and z -/

/-- What chunk `k`'s sum and its two sends need. -/
def preS (k : Fin 8) : sProp 𝕄 :=
  iprop(due c (drcv 0 k) ∗ ownsTc c (row rawM k) fullShare.right (rowOf (Raw m c) k) ∗ anyRow c sumM k
    ∗ (anyRow (xP c) xrM k ∗ toks c 1 k) ∗ (anyRow (zP c) zrM k ∗ toks c 2 k))
/-- What chunk `k`'s sum and its two sends leave. -/
def postS (k : Fin 8) : sProp 𝕄 :=
  iprop(zed c (drcv 0 k) ∗ ownsTc c (row rawM k) fullShare.right (rowOf (Raw m c) k) ∗ ownsTc c (row yM k) fullShare (rowOf (Raw m (yP c)) k)
    ∗ ownsTc c (row sumM k) fullShare.right.right (rowOf (Sm m c) k) ∗ crd c 1 k ∗ crd c 2 k)

/-- Chunk `k`'s sum and its two sends. -/
theorem step_s (k : Fin 8) (O : CellTallies nD τ sig Unit) (hO : Above 2 O) (Kt : PUnit → sProp 𝕄) :
    iprop(records m K ∗ preS m c k ∗ owesW c ((ow 1 c k + ow 2 c k) + O)) ⊢ iprop(((postS m c k ∗ owesW c O) -∗ Kt ⟨⟩) -∗ wpc c (stepS c k) Kt) := by
  simp only [stepS, waitRow, addRow, sendRow, Prog.lift, Prog.bind_op, Prog.bind_ret, Prog.pure_eq_ret]
  have hA : Above 2 (ow 1 c k + (ow 2 c k + O)) :=
    above_add (above_ow 1 c k 2 (by show 2 < 3; decide)) (above_add (above_ow 2 c k 2 (by show 2 < 3; decide)) hO)
  rw [add_assoc]
  unfold preS postS anyRow toks crd zed
  iintro ⟨#HR, ⟨Hdue, Hraw, ⟨%Y, Hsum⟩, ⟨Hdx, Ht1, Ht2⟩, ⟨Hdz, Ht3, Ht4⟩⟩, HO⟩ Hk
  iapply (wait_dma m K c (drcv 0 k) (P := ownsTc c (row yM k) fullShare (rowOf (Raw m (yP c)) k))
      (q := rcvS 0 k) rfl (dst := row yM k) rfl BIBase.Entails.rfl (n := 2) (Nat.le_refl 2) hA) $$ [Hdue HO]
  · isplitr; · iexact HR
    isplitl [Hdue] <;> iassumption
  iintro ⟨Hy, Hz, HO⟩
  iapply (own_load_slice c (m := rawM) (r := rowR k) (fun _ => rfl)) $$ Hraw; iintro Hraw
  iapply (own_load_slice c (m := yM) (r := rowR k) (fun _ => rfl)) $$ Hy; iintro Hy
  iapply (own_load_slice c (m := sumM) (r := rowR k) (fun _ => rfl)) $$ Hsum; iintro Hsum
  iapply (own_store_slice c (m := sumM) (r := rowR k) (fun _ => rfl)) $$ Hsum; iintro Hsum
  ihave Hsum := (Entails.of_eq (sum_parts m c k)) $$ Hsum
  icases Hsum with ⟨Hsl, Hsrl, Hsrr⟩
  iapply (send_dma m K c 1 k (p := xP c) rfl (dst := row xrM k) (X := rowOf (Sm m c) k) (q := fullShare.left) rfl (BIBase.Entails.rfl)
    (Entails.of_eq (by unfold rcvPay; rw [show Qv m 1 (tgt 1 c) = Sm m c from sum_at_x m c])) (O := ow 2 c k + O)) $$ [Hsl Hdx Ht1 Ht2 HO]
  · isplitr; · iexact HR
    isplitl [Hsl]; · iexact Hsl
    isplitl [Hdx]; · iexact Hdx
    isplitl [HO]; · iexact HO
    isplitl [Ht1] <;> iassumption
  iintro ⟨Hc1, HO⟩
  iapply (send_dma m K c 2 k (p := zP c) rfl (dst := row zrM k) (X := rowOf (Sm m c) k) (q := fullShare.right.left) rfl (BIBase.Entails.rfl)
    (Entails.of_eq (by unfold rcvPay; rw [show Qv m 2 (tgt 2 c) = Sm m c from sum_at_z m c])) (O := O)) $$ [Hsrl Hdz Ht3 Ht4 HO]
  · isplitr; · iexact HR
    isplitl [Hsrl]; · iexact Hsrl
    isplitl [Hdz]; · iexact Hdz
    isplitl [HO]; · iexact HO
    isplitl [Ht3] <;> iassumption
  iintro ⟨Hc2, HO⟩
  iapply (wpc_end c)
  iapply Hk
  isplitr [HO]
  · isplitl [Hz]; · iexact Hz
    isplitl [Hraw]; · iexact Hraw
    isplitl [Hy]; · iexact Hy
    isplitl [Hsrr]; · iexact Hsrr
    isplitl [Hc1] <;> iassumption
  iexact HO

/-! ## The forwards -/

/-- What chunk `k`'s two forwards need. -/
def preF (k : Fin 8) : sProp 𝕄 :=
  iprop((due c (drcv 1 k) ∗ due c (drcv 2 k)) ∗ (anyTop (zP c) drM k ∗ toks c 3 k) ∗ (anyBot (xP c) drM k ∗ toks c 4 k))
/-- What chunk `k`'s two forwards leave. -/
def postF (k : Fin 8) : sProp 𝕄 :=
  iprop((zed c (drcv 1 k) ∗ zed c (drcv 2 k))
    ∗ (ownsTc c (row xrM k) fullShare.right (rowOf (Qv m 1 c) k) ∗ ownsTc c (bot xrM k) fullShare.left (botOf (Qv m 1 c) k))
    ∗ (ownsTc c (row zrM k) fullShare.right (rowOf (Qv m 2 c) k) ∗ ownsTc c (top zrM k) fullShare.left (topOf (Qv m 2 c) k))
    ∗ crd c 3 k ∗ crd c 4 k)

/-- A received chunk is the share the flush reads and the two halves of the other share. -/
theorem row_parts (M : Memref sig .tc .vmem S512x512 .bf16) {V : S512x512.Idx → Elt F .bf16} (hV : Held M V) (k : Fin 8) :
    (ownsTc c (row M k) fullShare (rowOf V k) : sProp 𝕄)
      = iprop((ownsTc c (top M k) fullShare.left (topOf V k) ∗ ownsTc c (bot M k) fullShare.left (botOf V k)) ∗ ownsTc c (row M k) fullShare.right (rowOf V k)) := by
  rw [owns_split c (row M k) fullShare, owns_row_halves c M fullShare.left hV k]

/-- Chunk `k`'s two forwards. -/
theorem step_f (k : Fin 8) (O : CellTallies nD τ sig Unit) (hO : Above 3 O) (Kt : PUnit → sProp 𝕄) :
    iprop(records m K ∗ preF c k ∗ owesW c ((ow 3 c k + ow 4 c k) + O)) ⊢ iprop(((postF m c k ∗ owesW c O) -∗ Kt ⟨⟩) -∗ wpc c (stepF c k) Kt) := by
  simp only [stepF, waitRow, sendTop, sendBot, Prog.lift, Prog.bind_op, Prog.bind_ret, Prog.pure_eq_ret]
  have hB : Above 3 (ow 4 c k + O) := above_add (above_ow 4 c k 3 (by show 3 < 4; decide)) hO
  have hA : Above 3 (ow 3 c k + (ow 4 c k + O)) := above_add (above_ow 3 c k 3 (by show 3 < 4; decide)) hB
  rw [add_assoc]
  unfold preF postF anyTop anyBot toks crd zed
  iintro ⟨#HR, ⟨⟨Hdue1, Hdue2⟩, ⟨Hdz, Ht1, Ht2⟩, ⟨Hdx, Ht3, Ht4⟩⟩, HO⟩ Hk
  iapply (wait_dma m K c (drcv 1 k) (q := rcvS 1 k) rfl (dst := row xrM k) rfl (Entails.of_eq (row_parts c xrM (V := Qv m 1 c) ⟨_, rfl⟩ k)) (n := 3) (Nat.le_refl 3) hA) $$ [Hdue1 HO]
  · isplitr; · iexact HR
    isplitl [Hdue1] <;> iassumption
  iintro ⟨Hx, Hz1, HO⟩
  icases Hx with ⟨⟨Hxt, Hxb⟩, Hx⟩
  iapply (send_dma m K c 3 k (p := zP c) rfl (dst := top drM k) (X := topOf (Qv m 1 c) k) (q := fullShare.left) rfl (BIBase.Entails.rfl)
    (Entails.of_eq (by unfold rcvPay; rw [show Qv m 3 (tgt 3 c) = Qv m 1 c from corner_at_z m c])) (O := ow 4 c k + O)) $$ [Hxt Hdz Ht1 Ht2 HO]
  · isplitr; · iexact HR
    isplitl [Hxt]; · iexact Hxt
    isplitl [Hdz]; · iexact Hdz
    isplitl [HO]; · iexact HO
    isplitl [Ht1] <;> iassumption
  iintro ⟨Hc1, HO⟩
  iapply (wait_dma m K c (drcv 2 k) (q := rcvS 2 k) rfl (dst := row zrM k) rfl (Entails.of_eq (row_parts c zrM (V := Qv m 2 c) ⟨_, rfl⟩ k)) (n := 3) (Nat.le_refl 3) hB) $$ [Hdue2 HO]
  · isplitr; · iexact HR
    isplitl [Hdue2] <;> iassumption
  iintro ⟨Hz, Hz2, HO⟩
  icases Hz with ⟨⟨Hzt, Hzb⟩, Hz⟩
  iapply (send_dma m K c 4 k (p := xP c) rfl (dst := bot drM k) (X := botOf (Qv m 2 c) k) (q := fullShare.left) rfl (BIBase.Entails.rfl)
    (Entails.of_eq (by unfold rcvPay; rw [show Qv m 3 (tgt 4 c) = Qv m 2 c from corner_at_x m c])) (O := O)) $$ [Hzb Hdx Ht3 Ht4 HO]
  · isplitr; · iexact HR
    isplitl [Hzb]; · iexact Hzb
    isplitl [Hdx]; · iexact Hdx
    isplitl [HO]; · iexact HO
    isplitl [Ht3] <;> iassumption
  iintro ⟨Hc2, HO⟩
  iapply (wpc_end c)
  iapply Hk
  isplitr [HO]
  · isplitl [Hz1 Hz2]
    · isplitl [Hz1] <;> iassumption
    isplitl [Hx Hxb]
    · isplitl [Hx] <;> iassumption
    isplitl [Hz Hzt]
    · isplitl [Hz] <;> iassumption
    isplitl [Hc1] <;> iassumption
  iexact HO

/-! ## The forwarded halves arrive -/

/-- What the wait for the corner's halves of chunk `k` needs. -/
def preD (k : Fin 8) : sProp 𝕄 := iprop(due c (drcv 3 k) ∗ due c (drcv 4 k))
/-- What it leaves: the corner's chunk. -/
def postD (k : Fin 8) : sProp 𝕄 := iprop((zed c (drcv 3 k) ∗ zed c (drcv 4 k)) ∗ ownsTc c (row drM k) fullShare (rowOf (Qv m 3 c) k))

/-- The wait for the corner's halves of chunk `k`. -/
theorem step_d (k : Fin 8) (O : CellTallies nD τ sig Unit) (hO : Above 4 O) (Kt : PUnit → sProp 𝕄) :
    iprop(records m K ∗ preD c k ∗ owesW c O) ⊢ iprop(((postD m c k ∗ owesW c O) -∗ Kt ⟨⟩) -∗ wpc c (stepD k) Kt) := by
  simp only [stepD, waitTop, waitBot, Prog.lift, Prog.bind_op, Prog.bind_ret, Prog.pure_eq_ret]
  unfold preD postD zed
  rw [owns_row_halves c drM fullShare (V := Qv m 3 c) ⟨_, rfl⟩ k]
  iintro ⟨#HR, ⟨Hdue1, Hdue2⟩, HO⟩ Hk
  iapply (wait_dma m K c (drcv 3 k) (P := ownsTc c (top drM k) fullShare (topOf (Qv m 3 c) k))
      (q := rcvS 3 k) rfl (dst := top drM k) rfl BIBase.Entails.rfl (n := 4) (Nat.le_refl 4) hO) $$ [Hdue1 HO]
  · isplitr; · iexact HR
    isplitl [Hdue1] <;> iassumption
  iintro ⟨Ht, Hz1, HO⟩
  iapply (wait_dma m K c (drcv 4 k) (P := ownsTc c (bot drM k) fullShare (botOf (Qv m 3 c) k))
      (q := rcvS 4 k) rfl (dst := bot drM k) rfl BIBase.Entails.rfl (n := 4) (Nat.le_refl 4) hO) $$ [Hdue2 HO]
  · isplitr; · iexact HR
    isplitl [Hdue2] <;> iassumption
  iintro ⟨Hb, Hz2, HO⟩
  iapply (wpc_end c)
  iapply Hk
  isplitr [HO]
  · isplitl [Hz1 Hz2]
    · isplitl [Hz1] <;> iassumption
    isplitl [Ht] <;> iassumption
  iexact HO

/-! ## The sends are done -/

/-- What the wait for chunk `k`'s first three sends needs. -/
def preE (k : Fin 8) : sProp 𝕄 := iprop(due c (dsnd 0 k) ∗ due c (dsnd 1 k) ∗ due c (dsnd 2 k))
/-- What it leaves: the shares that were lent. -/
def postE (k : Fin 8) : sProp 𝕄 :=
  iprop((zed c (dsnd 0 k) ∗ zed c (dsnd 1 k) ∗ zed c (dsnd 2 k)) ∗ ownsTc c (row rawM k) fullShare.left (rowOf (Raw m c) k)
    ∗ ownsTc c (row sumM k) fullShare.left (rowOf (Sm m c) k) ∗ ownsTc c (row sumM k) fullShare.right.left (rowOf (Sm m c) k))

/-- The wait for chunk `k`'s first three sends. -/
theorem step_e (k : Fin 8) (O : CellTallies nD τ sig Unit) (hO : Above 0 O) (Kt : PUnit → sProp 𝕄) :
    iprop(records m K ∗ preE c k ∗ owesW c O) ⊢ iprop(((postE m c k ∗ owesW c O) -∗ Kt ⟨⟩) -∗ wpc c (stepE k) Kt) := by
  simp only [stepE, waitRow, Prog.lift, Prog.bind_op, Prog.bind_ret, Prog.pure_eq_ret]
  unfold preE postE zed
  iintro ⟨#HR, ⟨Hdue0, Hdue1, Hdue2⟩, HO⟩ Hk
  iapply (wait_dma m K c (dsnd 0 k) (P := ownsTc c (row rawM k) fullShare.left (rowOf (Raw m c) k))
      (q := sndS 0 k) rfl (dst := row rawM k) rfl BIBase.Entails.rfl (n := 0) (Nat.le_refl 0) hO) $$ [Hdue0 HO]
  · isplitr; · iexact HR
    isplitl [Hdue0] <;> iassumption
  iintro ⟨H0, Hz0, HO⟩
  iapply (wait_dma m K c (dsnd 1 k) (P := ownsTc c (row sumM k) fullShare.left (rowOf (Sm m c) k))
      (q := sndS 1 k) rfl (dst := row sumM k) rfl BIBase.Entails.rfl (n := 0) (Nat.le_refl 0) hO) $$ [Hdue1 HO]
  · isplitr; · iexact HR
    isplitl [Hdue1] <;> iassumption
  iintro ⟨H1, Hz1, HO⟩
  iapply (wait_dma m K c (dsnd 2 k) (P := ownsTc c (row sumM k) fullShare.right.left (rowOf (Sm m c) k))
      (q := sndS 2 k) rfl (dst := row sumM k) rfl BIBase.Entails.rfl (n := 0) (Nat.le_refl 0) hO) $$ [Hdue2 HO]
  · isplitr; · iexact HR
    isplitl [Hdue2] <;> iassumption
  iintro ⟨H2, Hz2, HO⟩
  iapply (wpc_end c)
  iapply Hk
  isplitr [HO]
  · isplitl [Hz0 Hz1 Hz2]
    · isplitl [Hz0]; · iexact Hz0
      isplitl [Hz1] <;> iassumption
    isplitl [H0]; · iexact H0
    isplitl [H1] <;> iassumption
  iexact HO

/-! ## The forwards are done -/

/-- What the wait for chunk `k`'s forwards needs. -/
def preG (k : Fin 8) : sProp 𝕄 := iprop(due c (dsnd 3 k) ∗ due c (dsnd 4 k))
/-- What it leaves: the shares that were lent. -/
def postG (k : Fin 8) : sProp 𝕄 :=
  iprop((zed c (dsnd 3 k) ∗ zed c (dsnd 4 k)) ∗ ownsTc c (top xrM k) fullShare.left (topOf (Qv m 1 c) k)
    ∗ ownsTc c (bot zrM k) fullShare.left (botOf (Qv m 2 c) k))

/-- The wait for chunk `k`'s forwards. -/
theorem step_g (k : Fin 8) (O : CellTallies nD τ sig Unit) (hO : Above 0 O) (Kt : PUnit → sProp 𝕄) :
    iprop(records m K ∗ preG c k ∗ owesW c O) ⊢ iprop(((postG m c k ∗ owesW c O) -∗ Kt ⟨⟩) -∗ wpc c (stepG k) Kt) := by
  simp only [stepG, waitTop, waitBot, Prog.lift, Prog.bind_op, Prog.bind_ret, Prog.pure_eq_ret]
  unfold preG postG zed
  iintro ⟨#HR, ⟨Hdue1, Hdue2⟩, HO⟩ Hk
  iapply (wait_dma m K c (dsnd 3 k) (P := ownsTc c (top xrM k) fullShare.left (topOf (Qv m 1 c) k))
      (q := sndS 3 k) rfl (dst := top xrM k) rfl BIBase.Entails.rfl (n := 0) (Nat.le_refl 0) hO) $$ [Hdue1 HO]
  · isplitr; · iexact HR
    isplitl [Hdue1] <;> iassumption
  iintro ⟨H1, Hz1, HO⟩
  iapply (wait_dma m K c (dsnd 4 k) (P := ownsTc c (bot zrM k) fullShare.left (botOf (Qv m 2 c) k))
      (q := sndS 4 k) rfl (dst := bot zrM k) rfl BIBase.Entails.rfl (n := 0) (Nat.le_refl 0) hO) $$ [Hdue2 HO]
  · isplitr; · iexact HR
    isplitl [Hdue2] <;> iassumption
  iintro ⟨H2, Hz2, HO⟩
  iapply (wpc_end c)
  iapply Hk
  isplitr [HO]
  · isplitl [Hz1 Hz2]
    · isplitl [Hz1] <;> iassumption
    isplitl [H1] <;> iassumption
  iexact HO

end Cert.AllReduce

end
-- ==== Proof.Parts.lean ====
/-
How the pieces the loops take and give back make whole buffers: the passage between a buffer and its chunks, shares and
halves, for each buffer of the kernel.
-/
module

public import proofs.«01_k».proof.Proof.Steps

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Tag → ℕ) (c : Dev nD)

/-- One assertion per chunk. -/
abbrev eachRow (Φ : Fin 8 → sProp 𝕄) : sProp 𝕄 := bigSep Finset.univ Φ

/-- A whole buffer, whatever it holds. -/
def anyBuf {sh : Shape} {e : EltTy} {sp : Space} (b : Memref sig .tc sp sh e) : sProp 𝕄 := iprop(∃ Y, ownsTc c b fullShare Y)

/-- A buffer at known contents is a buffer at some. -/
theorem anyBuf_intro {sh : Shape} {e : EltTy} {sp : Space} (b : Memref sig .tc sp sh e) (X : sh.Idx → Elt F e) : ownsTc c b fullShare X ⊢ anyBuf c b := by
  unfold anyBuf
  iintro H
  iexists X; iexact H

/-- A memref is its slice along the whole rectangle. -/
theorem owns_all {e : EltTy} (M : Memref sig .tc .vmem S512x512 e) (q : PosShare TreeShare) {V : S512x512.Idx → Elt F e} (hV : Held M V) :
    (ownsTc c M q V : sProp 𝕄) = ownsTc c (M.slice allR (fun _ => rfl)) q V := by
  have h := owns_cover c M q (fun (_ : Unit) => allR) (fun _ _ => rfl) (fun (t t' : Unit) h => absurd (Subsingleton.elim t t') h)
    (Finset.eq_univ_iff_forall.mpr fun i => Finset.mem_biUnion.mpr ⟨(), Finset.mem_univ (), by
      have h := Finset.mem_map_of_mem allR.emb (Finset.mem_univ i)
      rw [Rect.map_emb_univ, allR_emb] at h
      exact h⟩) hV
  have hf : (fun j => V (allR.emb j)) = V := funext fun j => congrArg V (allR_emb j)
  rw [h, hf]
  exact bigSep_univ_eq_bigSepL [()] (by decide) (by decide) _

/-! ## What a device hands its peers -/

/-- A chunk at known contents is a chunk at some. -/
theorem row_any (M : Memref sig .tc .vmem S512x512 .bf16) (k : Fin 8) (X : _) : ownsTc c (row M k) fullShare X ⊢ anyRow (F := F) c M k := by
  unfold anyRow
  iintro H
  iexists _; iexact H

/-- The same of a chunk's halves. -/
theorem half_any (M : Memref sig .tc .vmem S512x512 .bf16) (k : Fin 8) (X Y : _) :
    iprop(ownsTc c (top M k) fullShare X ∗ ownsTc c (bot M k) fullShare Y) ⊢ iprop(anyTop (F := F) c M k ∗ anyBot (F := F) c M k) := by
  unfold anyTop anyBot
  iintro ⟨H1, H2⟩
  isplitl [H1]
  · iexists _; iexact H1
  iexists _; iexact H2

/-- A buffer at some contents, chunk by chunk. -/
theorem rows_any (M : Memref sig .tc .vmem S512x512 .bf16) (hM : ∀ V, Held (F := F) M V) : anyBuf c M ⊢ eachRow fun k => anyRow (F := F) c M k := by
  unfold anyBuf
  iintro ⟨%V, H⟩
  have h : (ownsTc c M fullShare V : sProp 𝕄) ⊢ eachRow fun k => anyRow (F := F) c M k := by
    rw [owns_rows c M fullShare (hM V)]
    exact bigSep_mono fun k _ => row_any c M k _
  iapply h; iexact H

/-- A buffer at some contents, half chunk by half chunk. -/
theorem halves_any (M : Memref sig .tc .vmem S512x512 .bf16) (hM : ∀ V, Held (F := F) M V) :
    anyBuf c M ⊢ iprop((eachRow fun k => anyTop (F := F) c M k) ∗ eachRow fun k => anyBot (F := F) c M k) := by
  unfold anyBuf
  iintro ⟨%V, H⟩
  have h : (ownsTc c M fullShare V : sProp 𝕄) ⊢ iprop((eachRow fun k => anyTop (F := F) c M k) ∗ eachRow fun k => anyBot (F := F) c M k) := by
    rw [owns_rows c M fullShare (hM V), ← bigSep_sep']
    exact bigSep_mono fun k _ => (Entails.of_eq (owns_row_halves c M fullShare (hM V) k)).trans (half_any c M k _ _)
  iapply h; iexact H

/-- The landing buffers are what the three signals hand over. -/
theorem hand_over : iprop(anyBuf c yM ∗ anyBuf c xrM ∗ anyBuf c zrM ∗ anyBuf c drM) ⊢ iprop(barPay (F := F) 0 c ∗ barPay 1 c ∗ barPay 2 c) := by
  unfold barPay
  simp only [bigSep_sep']
  iintro ⟨Hy, Hx, Hz, Hd⟩
  ihave Hd := (halves_any c drM fun V => ⟨V, rfl⟩) $$ Hd
  icases Hd with ⟨Ht, Hb⟩
  isplitl [Hy]; · iapply (rows_any c yM fun V => ⟨V, rfl⟩); iexact Hy
  isplitl [Hx Hb]
  · isplitl [Hx]; · iapply (rows_any c xrM fun V => ⟨V, rfl⟩); iexact Hx
    iexact Hb
  isplitl [Hz]; · iapply (rows_any c zrM fun V => ⟨V, rfl⟩); iexact Hz
  iexact Ht

/-! ## What the loops take -/

/-- What all the y sends need. -/
theorem all_preY :
    iprop((eachRow fun k => ownsTc c (row rawM k) fullShare.left (rowOf (Raw m c) k)) ∗ barPay 0 (yP c) ∗ eachRow fun k => toks c 0 k)
      ⊢ eachRow fun k => preY m c k := by
  unfold preY barPay
  simp only [bigSep_sep']
  exact BIBase.Entails.rfl

/-- What all the sums and their sends need. -/
theorem all_preS :
    iprop((eachRow fun k => due c (drcv 0 k)) ∗ (eachRow fun k => ownsTc c (row rawM k) fullShare.right (rowOf (Raw m c) k)) ∗ (eachRow fun k => anyRow c sumM k)
        ∗ ((eachRow fun k => anyRow (xP c) xrM k) ∗ eachRow fun k => toks c 1 k) ∗ ((eachRow fun k => anyRow (zP c) zrM k) ∗ eachRow fun k => toks c 2 k))
      ⊢ eachRow fun k => preS m c k := by
  unfold preS
  simp only [bigSep_sep']
  exact BIBase.Entails.rfl

/-- What all the forwards need. -/
theorem all_preF :
    iprop(((eachRow fun k => due c (drcv 1 k)) ∗ eachRow fun k => due c (drcv 2 k))
        ∗ ((eachRow fun k => anyTop (zP c) drM k) ∗ eachRow fun k => toks c 3 k) ∗ ((eachRow fun k => anyBot (xP c) drM k) ∗ eachRow fun k => toks c 4 k))
      ⊢ eachRow fun k => preF (F := F) c k := by
  unfold preF
  simp only [bigSep_sep']
  exact BIBase.Entails.rfl

/-- What all the waits for the corner's halves need. -/
theorem all_preD :
    iprop((eachRow fun k => due (F := F) c (drcv 3 k)) ∗ eachRow fun k => due c (drcv 4 k)) ⊢ eachRow fun k => preD (F := F) c k := by
  unfold preD
  simp only [bigSep_sep']
  exact BIBase.Entails.rfl

/-- The right to wait for a transfer to have left: the position from the start, the credit from the transfer. -/
theorem all_due (i : Fin 5) :
    iprop((eachRow fun k => atPos ER (cell c (snd i k)) 0 ∅ 0) ∗ eachRow fun k => crd (F := F) c i k) ⊢ eachRow fun k => due (F := F) c (dsnd i k) := by
  unfold due crd
  simp only [bigSep_sep']
  exact BIBase.Entails.rfl

/-- What all the waits for the first sends need. -/
theorem all_preE :
    iprop((eachRow fun k => due (F := F) c (dsnd 0 k)) ∗ (eachRow fun k => due c (dsnd 1 k)) ∗ eachRow fun k => due c (dsnd 2 k)) ⊢ eachRow fun k => preE (F := F) c k := by
  unfold preE
  simp only [bigSep_sep']
  exact BIBase.Entails.rfl

/-- What all the waits for the forwards need. -/
theorem all_preG :
    iprop((eachRow fun k => due (F := F) c (dsnd 3 k)) ∗ eachRow fun k => due c (dsnd 4 k)) ⊢ eachRow fun k => preG (F := F) c k := by
  unfold preG
  simp only [bigSep_sep']
  exact BIBase.Entails.rfl

/-! ## What the loops give back -/

/-- The semaphores of transfer `i` at zero, at the receiving and at the sending end. -/
abbrev zr (i : Fin 5) : sProp 𝕄 := eachRow fun k => zed (F := F) c (drcv i k)
/-- A kind of transfer's send semaphores, done with. -/
abbrev zs (i : Fin 5) : sProp 𝕄 := eachRow fun k => zed (F := F) c (dsnd i k)

/-- What all the sums leave. -/
theorem all_postS :
    (eachRow fun k => postS m c k)
      ⊢ iprop(zr c 0 ∗ (eachRow fun k => ownsTc c (row rawM k) fullShare.right (rowOf (Raw m c) k)) ∗ ownsTc c yM fullShare (Raw m (yP c))
          ∗ ownsTc c sumM fullShare.right.right (Sm m c) ∗ (eachRow fun k => crd c 1 k) ∗ eachRow fun k => crd c 2 k) := by
  unfold postS
  simp only [bigSep_sep']
  rw [owns_rows c yM fullShare (V := Raw m (yP c)) ⟨_, rfl⟩, owns_rows c sumM fullShare.right.right (V := Sm m c) ⟨Sm m c, rfl⟩]

/-- What all the forwards leave. -/
theorem all_postF :
    (eachRow fun k => postF m c k)
      ⊢ iprop((zr c 1 ∗ zr c 2)
          ∗ (ownsTc c xrM fullShare.right (Qv m 1 c) ∗ eachRow fun k => ownsTc c (bot xrM k) fullShare.left (botOf (Qv m 1 c) k))
          ∗ (ownsTc c zrM fullShare.right (Qv m 2 c) ∗ eachRow fun k => ownsTc c (top zrM k) fullShare.left (topOf (Qv m 2 c) k))
          ∗ (eachRow fun k => crd c 3 k) ∗ eachRow fun k => crd c 4 k) := by
  unfold postF
  simp only [bigSep_sep']
  rw [owns_rows c xrM fullShare.right (V := Qv m 1 c) ⟨_, rfl⟩, owns_rows c zrM fullShare.right (V := Qv m 2 c) ⟨_, rfl⟩]

/-- What all the waits for the corner's halves leave. -/
theorem all_postD :
    (eachRow fun k => postD m c k) ⊢ iprop((zr c 3 ∗ zr c 4) ∗ ownsTc c drM fullShare (Qv m 3 c)) := by
  unfold postD
  simp only [bigSep_sep']
  rw [owns_rows c drM fullShare (V := Qv m 3 c) ⟨_, rfl⟩]

/-- What all the waits for the first sends leave. -/
theorem all_postE :
    (eachRow fun k => postE m c k)
      ⊢ iprop((zs c 0 ∗ zs c 1 ∗ zs c 2) ∗ ownsTc c rawM fullShare.left (Raw m c) ∗ ownsTc c sumM fullShare.left (Sm m c)
          ∗ ownsTc c sumM fullShare.right.left (Sm m c)) := by
  unfold postE
  simp only [bigSep_sep']
  rw [owns_rows c rawM fullShare.left (V := Raw m c) ⟨_, rfl⟩, owns_rows c sumM fullShare.left (V := Sm m c) ⟨Sm m c, rfl⟩,
    owns_rows c sumM fullShare.right.left (V := Sm m c) ⟨Sm m c, rfl⟩]

/-- What all the waits for the forwards leave. -/
theorem all_postG :
    (eachRow fun k => postG m c k)
      ⊢ iprop((zs c 3 ∗ zs c 4) ∗ (eachRow fun k => ownsTc c (top xrM k) fullShare.left (topOf (Qv m 1 c) k))
          ∗ eachRow fun k => ownsTc c (bot zrM k) fullShare.left (botOf (Qv m 2 c) k)) := by
  unfold postG
  simp only [bigSep_sep']
  exact BIBase.Entails.rfl

/-! ## The buffers whole again -/

/-- The rounded quarter as the loops take it: one share to send, one to add. -/
theorem raw_split :
    (ownsTc c rawM fullShare (Raw m c) : sProp 𝕄)
      = iprop((eachRow fun k => ownsTc c (row rawM k) fullShare.left (rowOf (Raw m c) k)) ∗ eachRow fun k => ownsTc c (row rawM k) fullShare.right (rowOf (Raw m c) k)) := by
  rw [owns_split c rawM fullShare, owns_rows c rawM fullShare.left (V := Raw m c) ⟨_, rfl⟩, owns_rows c rawM fullShare.right (V := Raw m c) ⟨_, rfl⟩]

/-- The rounded quarter, put together again. -/
theorem raw_back :
    iprop(ownsTc c rawM fullShare.left (Raw m c) ∗ eachRow fun k => ownsTc c (row rawM k) fullShare.right (rowOf (Raw m c) k)) ⊢ anyBuf c rawM := by
  unfold eachRow
  rw [← owns_rows c rawM fullShare.right (V := Raw m c) ⟨_, rfl⟩, ← owns_split c rawM fullShare]
  exact anyBuf_intro c rawM _

/-- The sum, put together again. -/
theorem sum_back :
    iprop(ownsTc c sumM fullShare.left (Sm m c) ∗ ownsTc c sumM fullShare.right.left (Sm m c) ∗ ownsTc c sumM fullShare.right.right (Sm m c)) ⊢ anyBuf c sumM := by
  rw [← owns_split c sumM fullShare.right, ← owns_split c sumM fullShare]
  exact anyBuf_intro c sumM _

/-- A received buffer: the two halves of the lent share, and the share the flush read. -/
theorem half_back (M : Memref sig .tc .vmem S512x512 .bf16) {V : S512x512.Idx → Elt F .bf16} (hV : Held M V) :
    iprop((eachRow fun k => ownsTc c (top M k) fullShare.left (topOf V k)) ∗ (eachRow fun k => ownsTc c (bot M k) fullShare.left (botOf V k))
        ∗ ownsTc c M fullShare.right V) ⊢ anyBuf c M := by
  have h : iprop((eachRow fun k => ownsTc c (top M k) fullShare.left (topOf V k)) ∗ (eachRow fun k => ownsTc c (bot M k) fullShare.left (botOf V k)))
      ⊢ (ownsTc c M fullShare.left V : sProp 𝕄) := by
    rw [← bigSep_sep', owns_rows c M fullShare.left hV]
    exact bigSep_mono fun k _ => Entails.of_eq (owns_row_halves c M fullShare.left hV k).symm
  refine BIBase.Entails.trans ?_ (anyBuf_intro c M V)
  rw [owns_split c M fullShare]
  iintro ⟨H1, H2, H3⟩
  isplitl [H1 H2]
  · iapply h
    isplitl [H1] <;> iassumption
  iexact H3

end Cert.AllReduce

end
-- ==== Proof.Body.lean ====
/-
The body on one device: from the buffers, the tokens and the debts it starts with to the four quarters of the result, every
buffer whole again, every semaphore at zero and nothing owed.
-/
module

public import proofs.«01_k».proof.Proof.Parts

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Tag → ℕ) (c : Dev nD)

/-! ## The ends -/

/-- The seven scratch buffers, whatever they hold. -/
def bufs : sProp 𝕄 :=
  iprop(anyBuf c inM ∗ anyBuf c rawM ∗ anyBuf c yM ∗ anyBuf c sumM ∗ anyBuf c xrM ∗ anyBuf c zrM ∗ anyBuf c drM)

/-- The place before semaphore `t`'s round. -/
def pos (t : Tag) : sProp 𝕄 := atPos ER (cell c t) 0 ∅ 0

/-- What the body starts with. -/
def atStart : sProp 𝕄 :=
  iprop(bufs c
    ∗ (ownsTc c (xBlk c) fullShare (Xv m c) ∗ bigSep Finset.univ fun r => iprop(∃ Y, ownsTc c (oBlk r c) fullShare Y))
    ∗ ((pos c bar ∗ cred (tallyAt (cell c bar) () 3))
        ∗ dutyTok ER (cell (yP c) bar) 0 0 ∗ dutyTok ER (cell (xP c) bar) 0 1 ∗ dutyTok ER (cell (zP c) bar) 0 2)
    ∗ (pos c inn ∗ dutyTok ER (cell c inn) 0 0)
    ∗ (bigSep Finset.univ fun r => iprop(pos c (out r) ∗ dutyTok ER (cell c (out r)) 0 0))
    ∗ (bigSep Finset.univ fun i => eachRow fun k => pos c (snd i k))
    ∗ (bigSep Finset.univ fun i => eachRow fun k => due c (drcv i k))
    ∗ (bigSep Finset.univ fun i => eachRow fun k => toks c i k)
    ∗ owesW c (O₀ c))

/-- All semaphores at zero. -/
def allZed : sProp 𝕄 :=
  iprop(zed c dinn ∗ (bigSep Finset.univ fun r => zed c (dout r)) ∗ (bigSep Finset.univ fun i => zs c i) ∗ bigSep Finset.univ fun i => zr c i)

/-- What the body ends with. -/
def atEnd : sProp 𝕄 :=
  iprop(bufs c ∗ (ownsTc c (xBlk c) fullShare (Xv m c) ∗ bigSep Finset.univ fun r => ownsTc c (oBlk r c) fullShare (Qv m r c))
    ∗ semVal (cell c bar) 0 ∗ allZed c ∗ owesW c 0)

/-- Over the five kinds of transfer. -/
theorem over_five (Φ : Fin 5 → sProp 𝕄) : bigSep Finset.univ Φ = iprop(Φ 0 ∗ Φ 1 ∗ Φ 2 ∗ Φ 3 ∗ Φ 4) :=
  bigSep_univ_eq_bigSepL ([0, 1, 2, 3, 4] : List (Fin 5)) (by decide) (by decide) Φ
/-- Over the four quarters. -/
theorem over_four (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) Φ

/-! ## The stages -/

/-- The quarter of the argument arrives, and the three peers get the buffers they will write. -/
theorem run_enter (Kt : PUnit → sProp 𝕄) :
    iprop(records m K ∗ anyBuf c inM ∗ ownsTc c (xBlk c) fullShare (Xv m c) ∗ (pos c inn ∗ dutyTok ER (cell c inn) 0 0)
        ∗ (barPay 0 c ∗ barPay 1 c ∗ barPay 2 c)
        ∗ (dutyTok ER (cell (yP c) bar) 0 0 ∗ dutyTok ER (cell (xP c) bar) 0 1 ∗ dutyTok ER (cell (zP c) bar) 0 2) ∗ owesW c (O₀ c))
      ⊢ iprop(((ownsTc c inM fullShare (Xv m c) ∗ ownsTc c (xBlk c) fullShare (Xv m c) ∗ zed c dinn ∗ owesW c (owY c)) -∗ Kt ⟨⟩)
          -∗ wpc c (enter c) Kt) := by
  simp only [enter, copyIn, waitIn, semSignalWord, Prog.lift, Prog.bind_op, Prog.bind_ret, Prog.pure_eq_ret]
  unfold anyBuf pos zed O₀
  iintro ⟨#HR, Hin, Hx, ⟨Hat, Ht⟩, ⟨Hy, Hxp, Hzp⟩, ⟨T0, T1, T2⟩, HO⟩ Hk
  iapply (copy_dma m K c dinn (s := inS) rfl (src := xBlk c) (dst := inM) (q := fullShare) (X := Xv m c) rfl BIBase.Entails.rfl) $$ [Hin Hx Ht]
  · isplitr; · iexact HR
    isplitl [Hx]; · iexact Hx
    isplitl [Hin] <;> iassumption
  iintro Hc
  iapply (signal_bar m K c 0 (p := yP c) rfl rfl (O := (owY c + owBar (zP c)) + owBar (xP c))) $$ [Hy HO T0]
  · isplitr; · iexact HR
    isplitl [Hy]; · iexact Hy
    isplitl [HO]; · iexact HO
    iexact T0
  iintro HO
  iapply (signal_bar m K c 1 (p := xP c) rfl rfl (O := owY c + owBar (zP c))) $$ [Hxp HO T1]
  · isplitr; · iexact HR
    isplitl [Hxp]; · iexact Hxp
    isplitl [HO]; · iexact HO
    iexact T1
  iintro HO
  iapply (signal_bar m K c 2 (p := zP c) rfl rfl (O := owY c)) $$ [Hzp HO T2]
  · isplitr; · iexact HR
    isplitl [Hzp]; · iexact Hzp
    isplitl [HO]; · iexact HO
    iexact T2
  iintro HO
  iapply (wait_dma m K c dinn (P := iprop(ownsTc c inM fullShare (Xv m c) ∗ ownsTc c (xBlk c) fullShare (Xv m c)))
      (q := inS) rfl (dst := inM) rfl BIBase.Entails.rfl (n := 1) (Nat.zero_le 1) (above_owY c)) $$ [Hc Hat HO]
  · isplitr; · iexact HR
    isplitl [Hat Hc]
    · unfold due
      isplitl [Hat] <;> iassumption
    iexact HO
  iintro ⟨⟨Hin, Hx⟩, Hz, HO⟩
  iapply (wpc_end c)
  iapply Hk
  isplitl [Hin]; · iexact Hin
  isplitl [Hx]; · iexact Hx
  isplitl [Hz] <;> iassumption

/-- The quarter rounded. -/
theorem run_round (Kt : PUnit → sProp 𝕄) :
    iprop(ownsTc c inM fullShare (Xv m c) ∗ anyBuf c rawM)
      ⊢ iprop(((ownsTc c inM fullShare (Xv m c) ∗ ownsTc c rawM fullShare (Raw m c)) -∗ Kt ⟨⟩) -∗ wpc c (roundIn (F := F)) Kt) := by
  have hw : (ownsTc c (rawM.slice allR (fun _ => rfl)) fullShare (k0_pay1 (Xv m c)) : sProp 𝕄) = ownsTc c rawM fullShare (Raw m c) :=
    (owns_all c rawM fullShare (V := Raw m c) ⟨_, rfl⟩).symm
  simp only [roundIn, Prog.lift, Prog.bind_op, Prog.bind_ret, Prog.pure_eq_ret]
  unfold anyBuf
  iintro ⟨Hin, ⟨%Y, Hr⟩⟩ Hk
  ihave Hin := (Entails.of_eq (owns_all c inM fullShare (V := Xv m c) ⟨Xv m c, rfl⟩)) $$ Hin
  ihave Hr := (Entails.of_eq (owns_all c rawM fullShare (V := Y) ⟨_, rfl⟩)) $$ Hr
  iapply (own_load_slice c (m := inM) (r := allR) (fun _ => rfl)) $$ Hin; iintro Hin
  iapply (own_load_slice c (m := rawM) (r := allR) (fun _ => rfl)) $$ Hr; iintro Hr
  iapply (own_store_slice c (m := rawM) (r := allR) (fun _ => rfl)) $$ Hr; iintro Hr
  ihave Hin := (Entails.of_eq (owns_all c inM fullShare (V := Xv m c) ⟨Xv m c, rfl⟩).symm) $$ Hin
  ihave Hr := (Entails.of_eq hw) $$ Hr
  iapply (wpc_end c)
  iapply Hk
  isplitl [Hin] <;> iassumption

/-- The peers are there. -/
theorem run_meet (Kt : PUnit → sProp 𝕄) :
    iprop(records m K ∗ (pos c bar ∗ cred (tallyAt (cell c bar) () 3)) ∗ owesW c (owY c))
      ⊢ iprop((((barPay 0 (yP c) ∗ barPay 1 (xP c) ∗ barPay 2 (zP c)) ∗ semVal (cell c bar) 0 ∗ owesW c (owY c)) -∗ Kt ⟨⟩)
          -∗ wpc c (semWaitWord barS 3#32) Kt) := by
  simp only [semWaitWord, Prog.lift, Prog.bind_op, Prog.bind_ret, Prog.pure_eq_ret]
  unfold pos
  iintro ⟨#HR, ⟨Hat, Hc⟩, HO⟩ Hk
  iapply (wait_bar m K c rfl (above_owY c)) $$ [Hat Hc HO]
  · isplitr; · iexact HR
    isplitl [Hat]; · iexact Hat
    isplitl [Hc] <;> iassumption
  iintro H
  iapply (wpc_end c)
  iapply Hk; iexact H

/-- A buffer copied out to its quarter. -/
theorem run_flush (r : Fin 4) (h : (srcM r).IsWhole) (Kt : PUnit → sProp 𝕄) :
    iprop(records m K ∗ ownsTc c (srcM r) (srcQ r) (Qv m r c) ∗ (∃ Y, ownsTc c (oBlk r c) fullShare Y) ∗ pos c (out r) ∗ dutyTok ER (cell c (out r)) 0 0)
      ⊢ iprop((due c (dout r) -∗ Kt ⟨⟩) -∗ wpc c (flush r (srcM r) h c) Kt) := by
  simp only [flush, Prog.lift, Prog.bind_op, Prog.bind_ret, Prog.pure_eq_ret]
  unfold pos due
  iintro ⟨#HR, Hs, Hd, Hat, Ht⟩ Hk
  iapply (copy_dma m K c (dout r) (s := outS r) rfl (src := srcM r) (dst := oBlk r c) (q := srcQ r) (X := Qv m r c) rfl BIBase.Entails.rfl) $$ [Hs Hd Ht]
  · isplitr; · iexact HR
    isplitl [Hs]; · iexact Hs
    isplitl [Hd] <;> iassumption
  iintro Hc
  iapply (wpc_end c)
  iapply Hk
  isplitl [Hat] <;> iassumption

/-- That copy is done. -/
theorem run_waitOut (r : Fin 4) (h : (srcM r).IsWhole) (Kt : PUnit → sProp 𝕄) :
    iprop(records m K ∗ due c (dout r) ∗ owesW c 0)
      ⊢ iprop(((ownsTc c (oBlk r c) fullShare (Qv m r c) ∗ ownsTc c (srcM r) (srcQ r) (Qv m r c) ∗ zed c (dout r) ∗ owesW c 0) -∗ Kt ⟨⟩)
          -∗ wpc c (waitOut r (srcM r) h c) Kt) := by
  simp only [waitOut, Prog.lift, Prog.bind_op, Prog.bind_ret, Prog.pure_eq_ret]
  unfold zed
  iintro ⟨#HR, Hd, HO⟩ Hk
  iapply (wait_dma m K c (dout r) (P := iprop(ownsTc c (oBlk r c) fullShare (Qv m r c) ∗ ownsTc c (srcM r) (srcQ r) (Qv m r c)))
      (q := outS r) rfl (dst := oBlk r c) rfl BIBase.Entails.rfl (n := 0) (Nat.le_refl 0) (above_zero 0)) $$ [Hd HO]
  · isplitr; · iexact HR
    isplitl [Hd] <;> iassumption
  iintro ⟨⟨Ho, Hs⟩, Hz, HO⟩
  iapply (wpc_end c)
  iapply Hk
  isplitl [Ho]; · iexact Ho
  isplitl [Hs]; · iexact Hs
  isplitl [Hz] <;> iassumption

/-- One stage of a program and what follows it. -/
theorem wpc_seq {p : TProg F} {f : PUnit → TProg F} {Kt : PUnit → sProp 𝕄} : wpc c p (fun _ => wpc c (f ⟨⟩) Kt) ⊢ wpc c (p >>= f) Kt := by
  unfold wpc
  rw [wp_bind]

/-- What the x peer and the z peer hand over, rows and halves apart. -/
theorem bar_x (p : Dev nD) : (barPay 1 p : sProp 𝕄) = iprop((eachRow fun k => anyRow p xrM k) ∗ eachRow fun k => anyBot p drM k) := by
  unfold barPay; simp only [bigSep_sep']
/-- What comes with the z peer's barrier unit, the rows and the halves apart. -/
theorem bar_z (p : Dev nD) : (barPay 2 p : sProp 𝕄) = iprop((eachRow fun k => anyRow p zrM k) ∗ eachRow fun k => anyTop p drM k) := by
  unfold barPay; simp only [bigSep_sep']

/-! ## The whole body -/

/-- The body from its start to its end. -/
theorem run_body (Kt : PUnit → sProp 𝕄) :
    iprop(records m K ∗ atStart m c) ⊢ iprop((atEnd m c -∗ Kt ⟨⟩) -∗ wpc c (bodyAt c) Kt) := by
  unfold bodyAt
  unfold atStart atEnd bufs allZed
  simp only [over_four, over_five]
  iintro ⟨#HR, ⟨Hin, Hraw, Hy, Hsum, Hx, Hz, Hd⟩, ⟨Hxb, Ho0, Ho1, Ho2, Ho3⟩, ⟨Hbar, Htb⟩, Hinn, ⟨Hg0, Hg1, Hg2, Hg3⟩,
    ⟨Hp0, Hp1, Hp2, Hp3, Hp4⟩, ⟨Hr0, Hr1, Hr2, Hr3, Hr4⟩, ⟨Ht0, Ht1, Ht2, Ht3, Ht4⟩, HO⟩ Hk
  -- the copy in and the meeting
  ihave Hh := (hand_over c) $$ [Hy Hx Hz Hd]
  · isplitl [Hy]; · iexact Hy
    isplitl [Hx]; · iexact Hx
    isplitl [Hz] <;> iassumption
  iapply (wpc_seq c)
  iapply (run_enter m K c _) $$ [Hin Hxb Hinn Hh Htb HO]
  · isplitr; · iexact HR
    isplitl [Hin]; · iexact Hin
    isplitl [Hxb]; · iexact Hxb
    isplitl [Hinn]; · iexact Hinn
    isplitl [Hh]; · iexact Hh
    isplitl [Htb] <;> iassumption
  iintro ⟨Hin, Hxb, Zin, HO⟩
  iapply (wpc_seq c)
  iapply (run_round m c _) $$ [Hin Hraw]
  · isplitl [Hin] <;> iassumption
  iintro ⟨Hin, Hraw⟩
  iapply (wpc_seq c)
  iapply (run_meet m K c _) $$ [Hbar HO]
  · isplitr; · iexact HR
    isplitl [Hbar] <;> iassumption
  iintro ⟨⟨By, Bx, Bz⟩, Zbar, HO⟩
  -- along y
  ihave Hraw := (Entails.of_eq (raw_split m c)) $$ Hraw
  icases Hraw with ⟨Hrl, Hrr⟩
  ihave HA := (all_preY m c) $$ [Hrl By Ht0]
  · isplitl [Hrl]; · iexact Hrl
    isplitl [By] <;> iassumption
  iapply (wpc_seq c)
  iapply (each_chunk c (R := records m K) (above_mono (show 1 ≤ 2 by decide) (above_owS c)) (fun k => above_ow 0 c k 1 (by show 1 < 2; decide)) (fun k O' _ Kt => step_y m K c k O' Kt) _) $$ [HA HO]
  · isplitr; · iexact HR
    isplitl [HA]; · iexact HA
    iexact HO
  iintro ⟨C0, HO⟩
  -- the sums
  ihave Hsum := (rows_any c sumM fun V => ⟨V, rfl⟩) $$ Hsum
  ihave Bx := (Entails.of_eq (bar_x (F := F) (xP c))) $$ Bx
  ihave Bz := (Entails.of_eq (bar_z (F := F) (zP c))) $$ Bz
  icases Bx with ⟨Bx, Bxd⟩
  icases Bz with ⟨Bz, Bzd⟩
  ihave HA := (all_preS m c) $$ [Hr0 Hrr Hsum Bx Ht1 Bz Ht2]
  · isplitl [Hr0]; · iexact Hr0
    isplitl [Hrr]; · iexact Hrr
    isplitl [Hsum]; · iexact Hsum
    isplitl [Bx Ht1]
    · isplitl [Bx] <;> iassumption
    isplitl [Bz] <;> iassumption
  iapply (wpc_seq c)
  iapply (each_chunk c (R := records m K) (n := 2) (above_mono (show 2 ≤ 3 by decide) (above_owF c)) (fun k => above_add (above_ow 1 c k 2 (by show 2 < 3; decide)) (above_ow 2 c k 2 (by show 2 < 3; decide)))
    (fun k O' hO Kt => step_s m K c k O' hO Kt) _) $$ [HA HO]
  · isplitr; · iexact HR
    isplitl [HA]; · iexact HA
    iexact HO
  iintro ⟨HB, HO⟩
  ihave HB := (all_postS m c) $$ HB
  icases HB with ⟨Zr0, Hrr, Hy, Hsrr, C1, C2⟩
  iapply (wpc_seq c)
  iapply (run_flush m K c 0 (W _) _) $$ [Hsrr Ho0 Hg0]
  · isplitr; · iexact HR
    isplitl [Hsrr]; · iexact Hsrr
    isplitl [Ho0] <;> iassumption
  iintro D0
  -- the forwards
  ihave HA := (all_preF (F := F) c) $$ [Hr1 Hr2 Bzd Ht3 Bxd Ht4]
  · isplitl [Hr1 Hr2]
    · isplitl [Hr1] <;> iassumption
    isplitl [Bzd Ht3]
    · isplitl [Bzd] <;> iassumption
    isplitl [Bxd] <;> iassumption
  iapply (wpc_seq c)
  iapply (each_chunk c (R := records m K) (n := 3) (O := 0) (above_zero 3) (fun k => above_add (above_ow 3 c k 3 (by show 3 < 4; decide)) (above_ow 4 c k 3 (by show 3 < 4; decide)))
    (fun k O' hO Kt => step_f m K c k O' hO Kt) _) $$ [HA HO]
  · isplitr; · iexact HR
    isplitl [HA]; · iexact HA
    iexact HO
  iintro ⟨HB, HO⟩
  ihave HB := (all_postF m c) $$ HB
  icases HB with ⟨⟨Zr1, Zr2⟩, ⟨Hxr, Hxb'⟩, ⟨Hzr, Hzt'⟩, C3, C4⟩
  iapply (wpc_seq c)
  iapply (run_flush m K c 1 (W _) _) $$ [Hxr Ho1 Hg1]
  · isplitr; · iexact HR
    isplitl [Hxr]; · iexact Hxr
    isplitl [Ho1] <;> iassumption
  iintro D1
  iapply (wpc_seq c)
  iapply (run_flush m K c 2 (W _) _) $$ [Hzr Ho2 Hg2]
  · isplitr; · iexact HR
    isplitl [Hzr]; · iexact Hzr
    isplitl [Ho2] <;> iassumption
  iintro D2
  -- the opposite corner's
  ihave HA := (all_preD (F := F) c) $$ [Hr3 Hr4]
  · isplitl [Hr3] <;> iassumption
  iapply (wpc_seq c)
  iapply (each_quiet c (R := records m K) (n := 4) (O := 0) (above_zero 4) (fun k O' hO Kt => step_d m K c k O' hO Kt) _) $$ [HA HO]
  · isplitr; · iexact HR
    isplitl [HA]; · iexact HA
    iexact HO
  iintro ⟨HB, HO⟩
  ihave HB := (all_postD m c) $$ HB
  icases HB with ⟨⟨Zr3, Zr4⟩, Hd⟩
  iapply (wpc_seq c)
  iapply (run_flush m K c 3 (W _) _) $$ [Hd Ho3 Hg3]
  · isplitr; · iexact HR
    isplitl [Hd]; · iexact Hd
    isplitl [Ho3] <;> iassumption
  iintro D3
  -- the sends are done
  ihave E0 := (all_due (F := F) c 0) $$ [Hp0 C0]
  · isplitl [Hp0]; · iexact Hp0
    iexact C0
  ihave E1 := (all_due (F := F) c 1) $$ [Hp1 C1]
  · isplitl [Hp1]; · iexact Hp1
    iexact C1
  ihave E2 := (all_due (F := F) c 2) $$ [Hp2 C2]
  · isplitl [Hp2]; · iexact Hp2
    iexact C2
  ihave HA := (all_preE (F := F) c) $$ [E0 E1 E2]
  · isplitl [E0]; · iexact E0
    isplitl [E1] <;> iassumption
  iapply (wpc_seq c)
  iapply (each_quiet c (R := records m K) (n := 0) (O := 0) (above_zero 0) (fun k O' hO Kt => step_e m K c k O' hO Kt) _) $$ [HA HO]
  · isplitr; · iexact HR
    isplitl [HA]; · iexact HA
    iexact HO
  iintro ⟨HB, HO⟩
  ihave HB := (all_postE m c) $$ HB
  icases HB with ⟨⟨Zs0, Zs1, Zs2⟩, Hrl, Hsl, Hsrl⟩
  ihave E3 := (all_due (F := F) c 3) $$ [Hp3 C3]
  · isplitl [Hp3]; · iexact Hp3
    iexact C3
  ihave E4 := (all_due (F := F) c 4) $$ [Hp4 C4]
  · isplitl [Hp4]; · iexact Hp4
    iexact C4
  ihave HA := (all_preG (F := F) c) $$ [E3 E4]
  · isplitl [E3] <;> iassumption
  iapply (wpc_seq c)
  iapply (each_quiet c (R := records m K) (n := 0) (O := 0) (above_zero 0) (fun k O' hO Kt => step_g m K c k O' hO Kt) _) $$ [HA HO]
  · isplitr; · iexact HR
    isplitl [HA]; · iexact HA
    iexact HO
  iintro ⟨HB, HO⟩
  ihave HB := (all_postG m c) $$ HB
  icases HB with ⟨⟨Zs3, Zs4⟩, Hxt, Hzb⟩
  -- the copies out are done
  iapply (wpc_seq c)
  iapply (run_waitOut m K c 0 (W _) _) $$ [D0 HO]
  · isplitr; · iexact HR
    isplitl [D0] <;> iassumption
  iintro ⟨Ho0, Hsrr, Zo0, HO⟩
  iapply (wpc_seq c)
  iapply (run_waitOut m K c 1 (W _) _) $$ [D1 HO]
  · isplitr; · iexact HR
    isplitl [D1] <;> iassumption
  iintro ⟨Ho1, Hxr, Zo1, HO⟩
  iapply (wpc_seq c)
  iapply (run_waitOut m K c 2 (W _) _) $$ [D2 HO]
  · isplitr; · iexact HR
    isplitl [D2] <;> iassumption
  iintro ⟨Ho2, Hzr, Zo2, HO⟩
  iapply (run_waitOut m K c 3 (W _) _) $$ [D3 HO]
  · isplitr; · iexact HR
    isplitl [D3] <;> iassumption
  iintro ⟨Ho3, Hd, Zo3, HO⟩
  iapply Hk
  isplitl [Hin Hrl Hrr Hy Hsl Hsrl Hsrr Hxt Hxb' Hxr Hzt' Hzb Hzr Hd]
  · isplitl [Hin]; · iapply (anyBuf_intro c inM _); iexact Hin
    isplitl [Hrl Hrr]
    · iapply (raw_back m c)
      isplitl [Hrl] <;> iassumption
    isplitl [Hy]; · iapply (anyBuf_intro c yM _); iexact Hy
    isplitl [Hsl Hsrl Hsrr]
    · iapply (sum_back m c)
      isplitl [Hsl]; · iexact Hsl
      isplitl [Hsrl]; · iexact Hsrl
      iexact Hsrr
    isplitl [Hxt Hxb' Hxr]
    · iapply (half_back c xrM (V := Qv m 1 c) ⟨_, rfl⟩)
      isplitl [Hxt]; · iexact Hxt
      isplitl [Hxb']; · iexact Hxb'
      iexact Hxr
    isplitl [Hzt' Hzb Hzr]
    · iapply (half_back c zrM (V := Qv m 2 c) ⟨_, rfl⟩)
      isplitl [Hzt']; · iexact Hzt'
      isplitl [Hzb]; · iexact Hzb
      iexact Hzr
    iapply (anyBuf_intro c drM _); iexact Hd
  isplitl [Hxb Ho0 Ho1 Ho2 Ho3]
  · isplitl [Hxb]; · iexact Hxb
    isplitl [Ho0]; · iexact Ho0
    isplitl [Ho1]; · iexact Ho1
    isplitl [Ho2] <;> iassumption
  isplitl [Zbar]; · iexact Zbar
  isplitr [HO]
  · isplitl [Zin]; · iexact Zin
    isplitl [Zo0 Zo1 Zo2 Zo3]
    · isplitl [Zo0]; · iexact Zo0
      isplitl [Zo1]; · iexact Zo1
      isplitl [Zo2] <;> iassumption
    isplitl [Zs0 Zs1 Zs2 Zs3 Zs4]
    · isplitl [Zs0]; · iexact Zs0
      isplitl [Zs1]; · iexact Zs1
      isplitl [Zs2]; · iexact Zs2
      isplitl [Zs3] <;> iassumption
    isplitl [Zr0]; · iexact Zr0
    isplitl [Zr1]; · iexact Zr1
    isplitl [Zr2]; · iexact Zr2
    isplitl [Zr3] <;> iassumption
  iexact HO

end Cert.AllReduce

end
-- ==== Proof.Fund.lean ====
/-
The protocol set up at launch: the tokens of every semaphore minted, every semaphore put under its schedule, and the tokens
dealt to the devices that spend them; and the credits a device finds at launch for what its peers owe it.
-/
module

public import proofs.«01_k».proof.Proof.Body

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Over all names -/

/-- Over the three peers. -/
theorem over_three (Φ : Fin 3 → sProp 𝕄) : bigSep Finset.univ Φ = iprop(Φ 0 ∗ Φ 1 ∗ Φ 2) :=
  bigSep_univ_eq_bigSepL ([0, 1, 2] : List (Fin 3)) (by decide) (by decide) Φ

/-- Over the scoped semaphores: those of the sends, of the receives, of the copy in and of the copies out. -/
theorem over_dtag (Φ : DTag → sProp 𝕄) :
    bigSep Finset.univ Φ = iprop((bigSep Finset.univ fun i => eachRow fun k => Φ (dsnd i k)) ∗ (bigSep Finset.univ fun i => eachRow fun k => Φ (drcv i k))
      ∗ Φ dinn ∗ bigSep Finset.univ fun r => Φ (dout r)) := by
  have h1 (Ψ : Unit → sProp 𝕄) : bigSep Finset.univ Ψ = Ψ () := bigSep_univ_eq_bigSepL [()] (by decide) (by decide) Ψ
  rw [bigSep_univ_sum Φ, bigSep_univ_sum, bigSep_univ_sum, bigSep_univ_prod, bigSep_univ_prod, h1]
  rfl

/-- Over all semaphores: the barrier and the scoped ones. -/
theorem over_tag (Φ : Tag → sProp 𝕄) : bigSep Finset.univ Φ = iprop(Φ bar ∗ bigSep Finset.univ fun t => Φ (.inr t)) := by
  have h1 (Ψ : Unit → sProp 𝕄) : bigSep Finset.univ Ψ = Ψ () := bigSep_univ_eq_bigSepL [()] (by decide) (by decide) Ψ
  rw [bigSep_univ_sum Φ, h1]
  rfl

/-! ## The peers as permutations -/

/-- A peer as a permutation of the devices. -/
def peerE (j : Fin 3) : Dev nD ≃ Dev nD := ⟨peer j, peer j, peer_peer j, peer_peer j⟩
/-- The target of a kind of transfer as a permutation of the devices. -/
def tgtE (i : Fin 5) : Dev nD ≃ Dev nD := ⟨tgt i, tgt i, tgt_tgt i, tgt_tgt i⟩

/-- What every device has of one kind, dealt along a permutation. -/
theorem deal {I : Type} [Fintype I] [DecidableEq I] (e : I → Dev nD ≃ Dev nD) (Φ : I → Dev nD → sProp 𝕄) :
    (bigSep Finset.univ fun c => bigSep Finset.univ fun i => Φ i c) = bigSep Finset.univ fun c => bigSep Finset.univ fun i => Φ i (e i c) := by
  have swap (Ψ : I → Dev nD → sProp 𝕄) : (bigSep Finset.univ fun c => bigSep Finset.univ fun i => Ψ i c) = bigSep Finset.univ fun i => bigSep Finset.univ fun c => Ψ i c := by
    rw [← bigSep_univ_prod fun x : Dev nD × I => Ψ x.2 x.1, ← bigSep_univ_prod fun x : I × Dev nD => Ψ x.1 x.2]
    exact bigSep_univ_equiv (Equiv.prodComm I (Dev nD)) fun x : Dev nD × I => Ψ x.2 x.1
  rw [swap, swap fun i c => Φ i (e i c)]
  exact bigSep_congr fun i _ => bigSep_univ_equiv (e i) (Φ i)

/-! ## Minting -/

/-- Each device's semaphores are distinct cells. -/
theorem pcell_injective : Function.Injective (fun ct : Dev nD × Tag => cell ct.1 ct.2) := fun a b h =>
  Prod.ext (cell_inj h).1 (cell_inj h).2
/-- The cells of the protocol. -/
def allCells : Finset (GSem nD τ sig) := Finset.univ.map ⟨_, pcell_injective⟩

/-- The duties: three of the barrier, one of each scoped semaphore. -/
abbrev tokOf (x : Dev nD × (Fin 3 ⊕ DTag)) : GSem nD τ sig × ℕ × Fin 3 :=
  match x.2 with
  | .inl j => (cell x.1 bar, 0, j)
  | .inr t => (cell x.1 (.inr t), 0, 0)
/-- Each duty has a token of its own. -/
theorem tokOf_injective : Function.Injective tokOf := by
  rintro ⟨c, j | t⟩ ⟨c', j' | t'⟩ h
  · obtain ⟨h1, -⟩ : c = c' ∧ bar = bar := cell_inj (congrArg Prod.fst h)
    have h2 : j = j' := congrArg (fun x : GSem nD τ sig × ℕ × Fin 3 => x.2.2) h
    rw [h1, h2]
  · exact absurd (cell_inj (congrArg Prod.fst h)).2 (by simp)
  · exact absurd (cell_inj (congrArg Prod.fst h)).2 (by simp)
  · obtain ⟨h1, h2⟩ : c = c' ∧ (Sum.inr t : Tag) = Sum.inr t' := cell_inj (congrArg Prod.fst h)
    rw [h1, Sum.inr_injective h2]
/-- The tokens of all the duties. -/
def allToks : Finset (GSem nD τ sig × ℕ × Fin 3) := Finset.univ.map ⟨tokOf, tokOf_injective⟩

/-- The ghost state at the launch: the pipeline's and the protocol's. -/
def u₀ : UU := (initOf (Pipeline.cells cfgs cellOf_inj) (Pipeline.launchToks cfgs cellOf_inj), initOf allCells allToks)

/-- The tokens of a device's own semaphores. -/
def ownToks (c : Dev nD) : sProp 𝕄 :=
  iprop((bigSep Finset.univ fun j => dutyTok ER (cell c bar) 0 j) ∗ bigSep Finset.univ fun t => dutyTok ER (cell c (.inr t)) 0 0)

/-- What is minted for device `c`. -/
def G (c : Dev nD) : sProp 𝕄 :=
  iprop((bigSep Finset.univ fun t : Tag => roundState ER (Rd m) (cell c t) 0)
    ∗ (bigSep Finset.univ fun t : Tag => iprop(atPos ER (cell c t) 0 ∅ 0 ∗ reached ER (cell c t) 0)) ∗ ownToks c)

/-- The protocol's ghost state at the launch is what each device is dealt of it. -/
theorem mint : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun t : Tag => Φ (cell c t) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every semaphore under its schedule -/

/-- The one semaphore that outlives the call is the barrier. -/
theorem unscopedSems0_bar (c : Dev nD) : (unscopedSems0 c : sProp 𝕄) = semVal (cell c bar) 0 := by
  unfold unscopedSems0; rw [bigSep_eq_bigSepL_of_eq [SemLoc.reg barS] (by decide) (by decide)]; rfl

/-- The scoped semaphores, by name. -/
theorem ownSems0_zed (c : Dev nD) :
    (Pipeline.ownSems0 (Ix := Unit) (Name := ℕ) (U := UU) (Lvl := ℕ) (Val := Elt F) (τ := τ) osem c : sProp 𝕄) = bigSep Finset.univ fun t => zed c t := rfl

/-- On one device: with its semaphores at zero, the invariant of each is made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun t => iprop(∃ κ : ℕ, cellInv ER (Rd m) κ (cell c t)))
          ∗ (bigSep Finset.univ fun t => iprop(atPos ER (cell c t) 0 ∅ 0 ∗ reached ER (cell c t) 0)) ∗ ownToks c) := by
  have hv : iprop(Pipeline.ownSems0 (Ix := Unit) (Name := ℕ) (U := UU) (Lvl := ℕ) (Val := Elt F) (τ := τ) osem c ∗ unscopedSems0 c)
      ⊢ (bigSep Finset.univ fun t : Tag => semVal (cell c t) 0 : sProp 𝕄) := by
    rw [ownSems0_zed, unscopedSems0_bar, over_tag]
    iintro ⟨HO, HB⟩
    isplitl [HB]; · iexact HB
    iexact HO
  have ha : iprop((bigSep Finset.univ fun t : Tag => semVal (cell c t) 0) ∗ bigSep Finset.univ fun t : Tag => roundState ER (Rd m) (cell c t) 0)
      ⊢ (|={Set.univ}=> bigSep Finset.univ fun t => iprop(∃ κ : ℕ, cellInv ER (Rd m) κ (cell c t)) : sProp 𝕄) := by
    rw [← bigSep_sep']
    exact (bigSep_mono fun t _ => (Rounds.body_intro ER (Rd m) (cell c t)).trans inv_alloc).trans (bigSep_fupd _ _)
  unfold G
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-! ## Dealing -/

/-- What every device knows but the levels. -/
def shared (K : Dev nD × Tag → ℕ) : sProp 𝕄 :=
  iprop((bigSep Finset.univ fun ct : Dev nD × Tag => cellInv ER (Rd m) (K ct) (cell ct.1 ct.2))
    ∗ bigSep Finset.univ fun ct : Dev nD × Tag => reached ER (cell ct.1 ct.2) 0)

instance shared_persistent (K : Dev nD × Tag → ℕ) : BI.Persistent (shared m K) := by unfold shared; infer_instance

/-- The tokens device `c` spends. -/
def spend (c : Dev nD) : sProp 𝕄 :=
  iprop((bigSep Finset.univ fun j => dutyTok ER (cell (peer j c) bar) 0 j) ∗ (bigSep Finset.univ fun i => eachRow fun k => toks c i k)
    ∗ dutyTok ER (cell c inn) 0 0 ∗ bigSep Finset.univ fun r => dutyTok ER (cell c (out r)) 0 0)

/-- What device `c` gets of the protocol. -/
def G' (c : Dev nD) : sProp 𝕄 := iprop(∃ K, shared m K ∗ (bigSep Finset.univ fun t : Tag => pos c t) ∗ spend c)

/-- Each duty's token goes to the device that pays it. -/
theorem toks_around : (bigSep Finset.univ fun c : Dev nD => (ownToks c : sProp 𝕄)) ⊢ bigSep Finset.univ fun c : Dev nD => spend c := by
  unfold ownToks spend toks
  simp only [over_dtag, bigSep_sep' (Finset.univ : Finset (Dev nD))]
  rw [deal peerE fun j c => dutyTok ER (cell c bar) 0 j, deal tgtE fun i c => eachRow fun k => dutyTok ER (cell c (rcv i k)) 0 0]
  simp only [bigSep_sep']
  iintro ⟨Hb, Hs, Hr, Hi, Ho⟩
  isplitl [Hb]; · iexact Hb
  isplitl [Hs Hr]
  · isplitl [Hs]; · iexact Hs
    iexact Hr
  isplitl [Hi] <;> iassumption

/-- What is persistent goes to each of several. -/
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device needs, from what every device made. -/
theorem regroup :
    (bigSep Finset.univ fun c : Dev nD => iprop((bigSep Finset.univ fun t => iprop(∃ κ : ℕ, cellInv ER (Rd m) κ (cell c t)))
          ∗ (bigSep Finset.univ fun t => iprop(atPos ER (cell c t) 0 ∅ 0 ∗ reached ER (cell c t) 0)) ∗ ownToks c) : sProp 𝕄)
      ⊢ bigSep Finset.univ (G' m) := by
  simp only [bigSep_sep']
  rw [← bigSep_univ_prod (fun ct : Dev nD × Tag => iprop(∃ κ : ℕ, cellInv ER (Rd m) κ (cell ct.1 ct.2))),
    ← bigSep_univ_prod (fun ct : Dev nD × Tag => (reached ER (cell ct.1 ct.2) 0 : sProp 𝕄))]
  iintro ⟨HI, ⟨Hat, #HR⟩, Htok⟩
  ihave HK := (BI.bigSep_exists_pi Finset.univ (fun (ct : Dev nD × Tag) (κ : ℕ) => (cellInv ER (Rd m) κ (cell ct.1 ct.2) : sProp 𝕄))) $$ HI
  icases HK with ⟨%K, #HI⟩
  ihave Htk := (toks_around (F := F)) $$ Htok
  have hint (c : Dev nD) : iprop(shared m K ∗ ((bigSep Finset.univ fun t : Tag => pos c t) ∗ spend c)) ⊢ G' m c := by
    unfold G'
    iintro ⟨H1, H2, H3⟩
    iexists K
    isplitl [H1]; · iexact H1
    isplitl [H2] <;> iassumption
  iapply (with_shared (R := shared m K) fun c _ => hint c)
  isplitr
  · unfold shared; isplitl; · iexact HI
    iexact HR
  · iapply (Entails.of_eq (bigSep_sep' Finset.univ (fun c : Dev nD => bigSep Finset.univ fun t : Tag => (pos c t : sProp 𝕄)) spend).symm)
    isplitl [Hat]; · iexact Hat
    iexact Htk

/-- Every semaphore of every device under its schedule, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What its peers owe a device's barrier. -/
theorem cred_bar (j : Fin 3) (c : Dev nD) : (Pipeline.launchCred (fun d => owBar (peer j d)) c : sProp 𝕄) ⊢ cred (tallyAt (cell c bar) () 1) :=
  Pipeline.launchCred_tallyAt (.reg barS) (peer j) (peer j) (peer_peer j) (peer_peer j) () 1 c

/-- What a device is owed of one kind of transfer. -/
theorem cred_ow (i : Fin 5) (c : Dev nD) :
    (Pipeline.launchCred (fun d => ∑ k, ow i d k) c : sProp 𝕄) ⊢ eachRow fun k => cred (tallyAt (cell c (rcv i k)) () (xferAmt i)) := by
  rw [Pipeline.launchCred_sum Finset.univ (fun k d => ow i d k) c]
  exact bigSep_mono fun k _ => Pipeline.launchCred_tallyAt (.dma (rcvS i k)) (tgt i) (tgt i) (tgt_tgt i) (tgt_tgt i) () (xferAmt i) c

/-- All that the peers owe device `c`. -/
def credits (c : Dev nD) : sProp 𝕄 :=
  iprop(cred (tallyAt (cell c bar) () 3) ∗ bigSep Finset.univ fun i => eachRow fun k => cred (tallyAt (cell c (rcv i k)) () (xferAmt i)))

/-- What a device owes, kind by kind. -/
theorem owed_eq : (O₀ : Dev nD → CellTallies nD τ sig Unit) = fun d =>
    (((((∑ k, ow 0 d k) + (((∑ k, ow 1 d k) + ∑ k, ow 2 d k) + (((∑ k, ow 3 d k) + ∑ k, ow 4 d k) + 0))) + owBar (peer 2 d)) + owBar (peer 1 d)) + owBar (peer 0 d)) := by
  funext d
  unfold O₀ owY owS owF
  rw [Finset.sum_add_distrib, Finset.sum_add_distrib]
  rfl

/-- The credit that the launch gives a device. -/
theorem creds (c : Dev nD) : (Pipeline.launchCred O₀ c : sProp 𝕄) ⊢ credits c := by
  have h3 : iprop(cred (tallyAt (cell c bar) () 1) ∗ cred (tallyAt (cell c bar) () 1) ∗ cred (tallyAt (cell c bar) () 1)) ⊢ (cred (tallyAt (cell c bar) () 3) : sProp 𝕄) := by
    have e : (tallyAt (cell c bar) () 3 : CellTallies nD τ sig Unit) = tallyAt (cell c bar) () 1 + (tallyAt (cell c bar) () 1 + tallyAt (cell c bar) () 1) := by
      rw [tallyAt_add, tallyAt_add]
    rw [e]
    exact (sep_mono_right (cred_add _ _).2).trans (cred_add _ _).2
  rw [owed_eq]
  simp only [Pipeline.launchCred_add, Pipeline.launchCred_zero]
  unfold credits
  rw [over_five]
  iintro ⟨⟨⟨⟨R0, ⟨R1, R2⟩, ⟨R3, R4⟩, -⟩, B2⟩, B1⟩, B0⟩
  isplitl [B0 B1 B2]
  · iapply h3
    isplitl [B0]; · iapply (cred_bar 0 c); iexact B0
    isplitl [B1]; · iapply (cred_bar 1 c); iexact B1
    iapply (cred_bar 2 c); iexact B2
  isplitl [R0]; · iapply (cred_ow 0 c); iexact R0
  isplitl [R1]; · iapply (cred_ow 1 c); iexact R1
  isplitl [R2]; · iapply (cred_ow 2 c); iexact R2
  isplitl [R3]; · iapply (cred_ow 3 c); iexact R3
  iapply (cred_ow 4 c); iexact R4

end Cert.AllReduce

end
-- ==== Proof.Quarters.lean ====
/-
The four quarters of the argument and of the result: which quarter is whose, that they make the whole buffer, and what the
result holds.
-/
module

public import proofs.«01_k».proof.Proof.Fund

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which quarter is whose -/

/-- Where quarter `r` of device `c` lies, in units of 512 rows: the device's own, its x peer's, its z peer's, the opposite
    corner's. -/
def blk (r : Fin 4) (c : Dev nD) : Fin 4 :=
  match r with
  | 0 => ⟨2 * (c.val / 4) + c.val % 2, by have h := c.isLt; simp only [nD] at h; omega⟩
  | 1 => ⟨2 * (1 - c.val / 4) + c.val % 2, by have h := c.isLt; simp only [nD] at h; omega⟩
  | 2 => ⟨2 * (c.val / 4) + (1 - c.val % 2), by have h := c.isLt; simp only [nD] at h; omega⟩
  | 3 => ⟨2 * (1 - c.val / 4) + (1 - c.val % 2), by have h := c.isLt; simp only [nD] at h; omega⟩

/-- Which of device `c`'s four quarters lies at `b`. -/
def whichQ (c : Dev nD) (b : Fin 4) : Fin 4 := if b = blk 0 c then 0 else if b = blk 1 c then 1 else if b = blk 2 c then 2 else 3

/-- The quarter that lies where quarter `r` lies is quarter `r`. -/
theorem whichQ_blk : ∀ (r : Fin 4) (c : Dev nD), whichQ c (blk r c) = r := by decide
/-- The quarter found for a place lies there. -/
theorem blk_whichQ : ∀ (c : Dev nD) (b : Fin 4), blk (whichQ c b) c = b := by decide
/-- The device a quarter comes from has it as its own. -/
theorem blk_qDev : ∀ (r : Fin 4) (c : Dev nD), blk 0 (qDev r c) = blk r c := by decide +kernel

/-- A quarter's offset is 512 rows times its place. -/
theorem oOff_eq : ∀ (r : Fin 4) (c : Dev nD), oOff r c = ![512 * (blk r c).val, 0] := by decide +kernel

/-- The rectangle of a quarter. -/
abbrev qRect (r : Fin 4) (c : Dev nD) : Rect S2048x512 := Rect.unit (s := S2048x512) (oOff r c) S512x512.size (oInb r c)

/-- Two quarters share no index. -/
theorem qRect_disjoint (c : Dev nD) (r r' : Fin 4) (h : r ≠ r') : Disjoint (qRect r c).set (qRect r' c).set := by
  refine Rect.unit_disjoint 0 ?_
  rw [oOff_eq, oOff_eq]
  have hne : (blk r c).val ≠ (blk r' c).val := fun e => h (by rw [← whichQ_blk r c, Fin.ext e, whichQ_blk])
  show 512 * (blk r c).val + 512 ≤ 512 * (blk r' c).val ∨ 512 * (blk r' c).val + 512 ≤ 512 * (blk r c).val
  omega

/-- The quarter an index lies in, and its place there. -/
def bandOf (i : S2048x512.Idx) : Fin 4 := ⟨(i 0).val / 512, by have h : (i 0).val < 2048 := (i 0).isLt; omega⟩
/-- The place of an index in its quarter. -/
def inBand (i : S2048x512.Idx) : S512x512.Idx := fun a =>
  match a with
  | 0 => ⟨(i 0).val % 512, Nat.mod_lt _ (by decide)⟩
  | 1 => ⟨(i 1).val, (i 1).isLt⟩

/-- The row of a quarter's index. -/
theorem emb_row (r : Fin 4) (c : Dev nD) (j : S512x512.Idx) : ((qRect r c).emb j 0).val = 512 * (blk r c).val + (j 0).val := by
  show oOff r c 0 + 1 * (j 0).val = _
  rw [oOff_eq, Nat.one_mul]; rfl
/-- The column of a quarter's index. -/
theorem emb_col (r : Fin 4) (c : Dev nD) (j : S512x512.Idx) : ((qRect r c).emb j 1).val = (j 1).val := by
  show oOff r c 1 + 1 * (j 1).val = _
  rw [oOff_eq, Nat.one_mul]; exact Nat.zero_add _

/-- A quarter's indices lie in it. -/
theorem bandOf_emb (r : Fin 4) (c : Dev nD) (j : S512x512.Idx) : bandOf ((qRect r c).emb j) = blk r c := by
  have hj : (j 0).val < 512 := (j 0).isLt
  refine Fin.ext ?_
  show ((qRect r c).emb j 0).val / 512 = _
  rw [emb_row]; omega
/-- The place of a quarter's index is that index. -/
theorem inBand_emb (r : Fin 4) (c : Dev nD) (j : S512x512.Idx) : inBand ((qRect r c).emb j) = j := by
  have hj : (j 0).val < 512 := (j 0).isLt
  funext a
  match a with
  | 0 =>
    refine Fin.ext ?_
    show ((qRect r c).emb j 0).val % 512 = _
    rw [emb_row]; omega
  | 1 => exact Fin.ext (emb_col r c j)

/-- An index is where its place in its quarter says. -/
theorem emb_inBand (r : Fin 4) (c : Dev nD) (i : S2048x512.Idx) (h : blk r c = bandOf i) : (qRect r c).emb (inBand i) = i := by
  funext a
  match a with
  | 0 =>
    refine Fin.ext ?_
    rw [emb_row, h]
    show 512 * ((i 0).val / 512) + (i 0).val % 512 = _
    omega
  | 1 => exact Fin.ext (emb_col r c (inBand i))

/-- The quarters are all of the array. -/
theorem qRect_cover (c : Dev nD) : (Finset.univ : Finset (Fin 4)).biUnion (fun r => (qRect r c).set) = Finset.univ := by
  refine Finset.eq_univ_iff_forall.mpr fun i => Finset.mem_biUnion.mpr ⟨whichQ c (bandOf i), Finset.mem_univ _, ?_⟩
  have h := Finset.mem_map_of_mem (qRect (whichQ c (bandOf i)) c).emb (Finset.mem_univ (inBand i))
  rw [Rect.map_emb_univ, emb_inBand (whichQ c (bandOf i)) c i (blk_whichQ c _)] at h
  exact h

/-! ## The buffers in quarters -/

variable (m : (ℓ : Loc nD τ sig) → Buf (Elt F) ℓ)

/-- What device `c`'s result holds. -/
def Out (c : Dev nD) : S2048x512.Idx → Elt F .bf16 := fun i => Qv m (whichQ c (bandOf i)) c (inBand i)

/-- The result on quarter `r` is that quarter's sum. -/
theorem out_emb (r : Fin 4) (c : Dev nD) : (fun j => Out m c ((qRect r c).emb j)) = Qv m r c := by
  funext j
  unfold Out
  rw [bandOf_emb, whichQ_blk, inBand_emb]

/-- A buffer in its quarters. -/
theorem in_quarters {e : EltTy} (c : Dev nD) (M : Memref sig .tc .hbm S2048x512 e) {X : S2048x512.Idx → Elt F e} (hX : Held M X) :
    (ownsTc c M fullShare X : sProp 𝕄)
      = bigSep Finset.univ fun r => ownsTc c (M.slice (qRect r c) (fun _ => rfl)) fullShare (fun j => X ((qRect r c).emb j)) :=
  owns_cover c M fullShare (fun r => qRect r c) (fun _ _ => rfl) (qRect_disjoint c) (qRect_cover c) hX

/-- The result, its quarters at the sums, is the result at `Out`. -/
theorem result_whole (c : Dev nD) :
    (bigSep Finset.univ fun r => ownsTc c (oBlk r c) fullShare (Qv m r c) : sProp 𝕄) = ((c.tc : Thread nD τ).loc main_v1 ↦{fullShare} Out m c) := by
  refine Eq.trans ?_ ((in_quarters c oM (X := Out m c) ⟨Out m c, rfl⟩).symm.trans (owns_whole (c.tc : Thread nD τ) main_v1 fullShare (Out m c)))
  exact bigSep_congr fun r _ => by rw [out_emb]

/-- The result's quarters, whatever they hold. -/
theorem result_any (c : Dev nD) (f : Buf (Elt F) ((c.tc : Thread nD τ).loc main_v1)) :
    ((c.tc : Thread nD τ).loc main_v1 ↦{fullShare} f : sProp 𝕄) ⊢ bigSep Finset.univ fun r => iprop(∃ Y, ownsTc c (oBlk r c) fullShare Y) := by
  have h := (owns_whole (c.tc : Thread nD τ) main_v1 fullShare f).symm.trans (in_quarters (F := F) c oM (X := f) ⟨f, rfl⟩)
  refine (Entails.of_eq h).trans (bigSep_mono fun r _ => ?_)
  have h2 (X : _) : ownsTc c (oBlk r c) fullShare X ⊢ (iprop(∃ Y, ownsTc c (oBlk r c) fullShare Y) : sProp 𝕄) := by
    iintro H; iexists X; iexact H
  exact h2 _

/-- The argument is the device's own quarter and the three others. -/
def otherQ (c : Dev nD) : sProp 𝕄 :=
  iprop(ownsTc c (xM.slice (qRect 1 c) (fun _ => rfl)) fullShare (fun j => m ((c.tc : Thread nD τ).loc main_arg0) ((qRect 1 c).emb j))
    ∗ ownsTc c (xM.slice (qRect 2 c) (fun _ => rfl)) fullShare (fun j => m ((c.tc : Thread nD τ).loc main_arg0) ((qRect 2 c).emb j))
    ∗ ownsTc c (xM.slice (qRect 3 c) (fun _ => rfl)) fullShare (fun j => m ((c.tc : Thread nD τ).loc main_arg0) ((qRect 3 c).emb j)))

/-- The argument is the device's own quarter and the rest. -/
theorem arg_split (c : Dev nD) :
    ((c.tc : Thread nD τ).loc main_arg0 ↦{fullShare} m ((c.tc : Thread nD τ).loc main_arg0) : sProp 𝕄) = iprop(ownsTc c (xBlk c) fullShare (Xv m c) ∗ otherQ m c) := by
  have h := (owns_whole (c.tc : Thread nD τ) main_arg0 fullShare (m ((c.tc : Thread nD τ).loc main_arg0))).symm.trans
    ((in_quarters (F := F) c xM (X := m ((c.tc : Thread nD τ).loc main_arg0)) ⟨m ((c.tc : Thread nD τ).loc main_arg0), rfl⟩).trans (over_four _))
  exact h

end Cert.AllReduce

end
-- ==== Proof.Run.lean ====
/-
The run: every device's body from what the launch hands it, and the final memory: the argument as it was, the result at
`Out`, every semaphore at zero.
-/
module

public import proofs.«01_k».proof.Proof.Quarters
public import Idealize.ShloMosaic.Lib.Pipeline.CollectiveSegs

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body's ends at the launch -/

/-- What device `c` starts with besides its scratch buffers. -/
def start (c : Dev nD) : sProp 𝕄 :=
  iprop(G' m c ∗ levAts L lv ∗ credits c
    ∗ ((c.tc : Thread nD τ).loc main_arg0 ↦{fullShare} m ((c.tc : Thread nD τ).loc main_arg0))
    ∗ ((c.tc : Thread nD τ).loc main_v1 ↦{fullShare} m ((c.tc : Thread nD τ).loc main_v1)))

/-- What device `c` ends with besides its scratch buffers and scoped semaphores. -/
def result (c : Dev nD) : sProp 𝕄 :=
  iprop(unscopedSems0 c
    ∗ ((c.tc : Thread nD τ).loc main_arg0 ↦{fullShare} m ((c.tc : Thread nD τ).loc main_arg0))
    ∗ ((c.tc : Thread nD τ).loc main_v1 ↦{fullShare} Out m c))

/-- Before the body. -/
def Φ₀ (c : Dev nD) : sProp 𝕄 := iprop(start m c ∗ bufs c)
/-- After the body. -/
def Φ₁ (c : Dev nD) : sProp 𝕄 := iprop(result m c ∗ (bigSep Finset.univ fun t => zed c t) ∗ bufs c)

/-- The launch's pieces are what the body starts with. -/
theorem to_start (K : Dev nD × Tag → ℕ) (c : Dev nD) :
    iprop(((bigSep Finset.univ fun t : Tag => pos c t) ∗ spend c) ∗ credits c
        ∗ ((c.tc : Thread nD τ).loc main_arg0 ↦{fullShare} m ((c.tc : Thread nD τ).loc main_arg0))
        ∗ ((c.tc : Thread nD τ).loc main_v1 ↦{fullShare} m ((c.tc : Thread nD τ).loc main_v1)) ∗ bufs c ∗ owesW c (O₀ c))
      ⊢ iprop(atStart m c ∗ otherQ m c) := by
  have hdue (i : Fin 5) : iprop((eachRow fun k => pos c (rcv i k)) ∗ eachRow fun k => cred (tallyAt (cell c (rcv i k)) () (xferAmt i)))
      ⊢ (eachRow fun k => due (F := F) c (drcv i k)) := by
    rw [← bigSep_sep']; exact BIBase.Entails.rfl
  have hdues : iprop((bigSep Finset.univ fun i => eachRow fun k => pos c (rcv i k)) ∗ bigSep Finset.univ fun i => eachRow fun k => cred (tallyAt (cell c (rcv i k)) () (xferAmt i)))
      ⊢ (bigSep Finset.univ fun i => eachRow fun k => due (F := F) c (drcv i k)) := by
    rw [← bigSep_sep']; exact bigSep_mono fun i _ => hdue i
  have hout : iprop((bigSep Finset.univ fun r => pos c (out r)) ∗ bigSep Finset.univ fun r => dutyTok ER (cell c (out r)) 0 0)
      ⊢ (bigSep Finset.univ fun r => iprop(pos (F := F) c (out r) ∗ dutyTok ER (cell c (out r)) 0 0)) := by
    rw [bigSep_sep']
  unfold atStart spend credits
  rw [over_tag, over_dtag, over_three, arg_split]
  iintro ⟨⟨⟨Pb, Ps, Pr, Pi, Po⟩, Tb, Ts, Ti, To⟩, ⟨Cb, Cr⟩, ⟨Hx, Hoth⟩, Hv, Hb, HO⟩
  isplitr [Hoth]
  · isplitl [Hb]; · iexact Hb
    isplitl [Hx Hv]
    · isplitl [Hx]; · iexact Hx
      iapply (result_any (F := F) c _); iexact Hv
    isplitl [Pb Cb Tb]
    · isplitl [Pb Cb]
      · isplitl [Pb] <;> iassumption
      iexact Tb
    isplitl [Pi Ti]
    · isplitl [Pi] <;> iassumption
    isplitl [Po To]
    · iapply hout
      isplitl [Po] <;> iassumption
    isplitl [Ps]; · iexact Ps
    isplitl [Pr Cr]
    · iapply hdues
      isplitl [Pr] <;> iassumption
    isplitl [Ts] <;> iassumption
  iexact Hoth

/-- What the body ends with is the result, the semaphores and the buffers. -/
theorem of_end (c : Dev nD) : iprop(atEnd m c ∗ otherQ m c) ⊢ iprop(Φ₁ m c ∗ owesW c 0) := by
  unfold atEnd Φ₁ result allZed
  rw [over_dtag, arg_split, ← result_whole, unscopedSems0_bar]
  iintro ⟨⟨Hb, ⟨Hx, Ho⟩, Hz, ⟨Zi, Zo, Zs, Zr⟩, HO⟩, Hoth⟩
  isplitr [HO]
  · isplitl [Hz Hx Hoth Ho]
    · isplitl [Hz]; · iexact Hz
      isplitr [Ho]
      · isplitl [Hx] <;> iassumption
      iexact Ho
    isplitr [Hb]
    · isplitl [Zs]; · iexact Zs
      isplitl [Zr]; · iexact Zr
      isplitl [Zi] <;> iassumption
    iexact Hb
  iexact HO

/-! ## The proof data -/

/-- The proof data of the call: no window, the body's ends, what is owed before and after. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The call has no windows. -/
theorem no_windows (Φ : Fin cfg0.W → sProp 𝕄) : bigSep Finset.univ Φ = iprop(emp) := bigSep_empty

set_option maxRecDepth 8000 in
/-- The pipeline's body is `body`. -/
theorem body_is : defs₀ (F := F) Proc.tc cfg0.body (cfg0.bodyArgs t0_0 (cfg0.slots t0_0)) = body := by
  unfold defs₀
  exact body_eq

/-- The body's obligation on device `c`. -/
theorem body_obligation (c : Dev nD) : Pipeline.BodyObligation (dats (F := F) m 0 c) (defs₀ (F := F)) 𝒱₀ () Set.univ := fun t => by
  rw [fin_N0 t, no_windows, no_windows, body_is, show (dats m 0 c).Φ t0_0.castSucc = Φ₀ m c from rfl, show (dats m 0 c).Φ t0_0.succ = Φ₁ m c from rfl]
  unfold body Pipeline.Dat.owesAt Pipeline.owesWithin
  simp only [Prog.lift, Prog.bind_op, Prog.bind_ret, wp_deviceId]
  rw [show (dats m 0 c).owed t0_0.castSucc = O₀ c from rfl, show (dats m 0 c).owed t0_0.succ = 0 from rfl]
  unfold Φ₀ start G'
  iintro ⟨⟨⟨⟨%K, HS, Hg⟩, Hlev, Hcr, Hx, Hv⟩, Hb⟩, ⟨%W, -, HO⟩, -⟩
  ihave Hst := (to_start m K c) $$ [Hg Hcr Hx Hv Hb HO]
  · isplitl [Hg]; · iexact Hg
    isplitl [Hcr]; · iexact Hcr
    isplitl [Hx]; · iexact Hx
    isplitl [Hv]; · iexact Hv
    isplitl [Hb]; · iexact Hb
    unfold owesW
    iexists W; iexact HO
  icases Hst with ⟨Hst, Hoth⟩
  iapply (run_body m K c _) $$ [HS Hlev Hst]
  · isplitr [Hst]
    · unfold shared records
      icases HS with ⟨HI, HR⟩
      isplitl [HI]; · iexact HI
      isplitl [HR] <;> iassumption
    iexact Hst
  iintro He
  ihave Hf := (of_end m c) $$ [He Hoth]
  · isplitl [He] <;> iassumption
  unfold owesW
  icases Hf with ⟨Hf, ⟨%W', HO⟩⟩
  isplitl [Hf]; · iexact Hf
  isplitl [HO]
  · iexists W'
    isplitr; · ipureintro; exact fun _ _ => Or.inl trivial
    iexact HO
  iempintro

/-! ## The launch's side conditions -/

/-- The scoped semaphores are distinct. -/
theorem ownSemFacts : Pipeline.OwnSemFacts cfg0.spec osem where
  isScoped := by decide
  inj := fun a b h => Sum.inr_injective (semOf_injective h)
  disj := fun _ w => w.elim0

/-- The scratch buffers at some contents. -/
theorem bufs_eq (c : Dev nD) : (Pipeline.scopedRest (Ix := Unit) (Name := ℕ) (U := UU) (Lvl := ℕ) (Val := Elt F) cfg0.spec c : sProp 𝕄) = bufs c := by
  have h (b : Ref sig .tc) : (iprop(∃ f : Buf (Elt F) ((c.tc : Thread nD τ).loc b), (c.tc : Thread nD τ).loc b ↦{fullShare} f) : sProp 𝕄)
      = iprop(∃ Y, ownsTc c (Memref.whole b) fullShare Y) := by
    simp only [owns_whole]
  rw [scopedRest0_eq]
  unfold bufs anyBuf
  rw [h cc0_scratch0, h cc0_scratch1, h cc0_scratch2, h cc0_scratch3, h cc0_scratch4, h cc0_scratch5, h cc0_scratch6]
  rfl

/-- What the launch gives a device is its start. -/
theorem start_intro (c : Dev nD) :
    iprop(Pipeline.unscopedRestP Pipeline.Prefetch.none cfg0.spec c (fun b => m ((c.tc : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  imodintro
  unfold start
  isplitl
  · isplitl [HG]; · iexact HG
    isplitl [Hlev]; · iexact Hlev
    isplitl [Hc]; · iexact Hc
    isplitl [Hx] <;> iassumption
  · iempintro

/-- The start and the scratch buffers are what holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, Hr⟩
  isplitl [Hs] <;> iassumption

/-- What holds after the body is the result, the scoped semaphores at zero and the scratch buffers. -/
theorem phi1_exit (c : Dev nD) :
    (dats m 0 c).Φ (Fin.last cfg0.N) ⊢ iprop(result m c ∗ Pipeline.ownSems0 osem c ∗ Pipeline.scopedRest cfg0.spec c) := by
  rw [show (dats m 0 c).Φ (Fin.last cfg0.N) = Φ₁ m c from rfl, bufs_eq, ownSems0_zed]
  unfold Φ₁
  exact BIBase.Entails.rfl

/-- There is no window to wait for. -/
theorem waits (c : Dev nD) : (levAts L lv : sProp 𝕄) ⊢ Pipeline.cellsWaits cfgs (dats m) () 0 c :=
  Pipeline.cellsWaits_intro cfgs (dats m) () 0 c fun w => w.elim0

/-- What the final memory of device `c` is. -/
def Final (c : Dev nD) (s : MemSt nD τ sig (Elt F)) : Prop :=
  s.mem ((c.tc : Thread nD τ).loc main_arg0) = m ((c.tc : Thread nD τ).loc main_arg0) ∧ s.mem ((c.tc : Thread nD τ).loc main_v1) = Out m c

/-- What a device ends with says what the memory is. -/
theorem read_final (c : Dev nD) (s' : Phys nD τ sig (Elt F)) :
    iprop(result m c ∗ emp ∗ SI s') ⊢ |={Set.univ}=> iprop(⌜Final m c s'.mem ∧ ∀ sm : SemLoc sig, sm.isScoped .tc = false → s'.mem.sem ((c.tc : Thread nD τ), sm) = 0⌝ ∗ SI s') := by
  have rd (b : Ref sig .tc) (f : Buf (Elt F) ((c.tc : Thread nD τ).loc b)) :
      iprop(((c.tc : Thread nD τ).loc b ↦{fullShare} f) ∗ SI s') ⊢ (iprop(⌜s'.mem.mem ((c.tc : Thread nD τ).loc b) = f⌝ ∗ SI s') : sProp 𝕄) := by
    have h := pointsTo_read_all (Ix := Unit) (Name := ℕ) (U := UU) (Lvl := ℕ) ({()} : Finset Unit) (fun _ => (c.tc : Thread nD τ).loc b) (fun _ => f) s'
    rw [bigSep_singleton] at h
    refine BIBase.Entails.trans h ?_
    iintro ⟨%h1, H⟩
    isplitr; · ipureintro; exact h1 () (Finset.mem_singleton_self ())
    iexact H
  unfold result
  iintro ⟨⟨Hu, Hx, Hv⟩, -, HSI⟩
  ihave H := (rd main_arg0 _) $$ [Hx HSI]
  · isplitl [Hx] <;> iassumption
  icases H with ⟨%hx, HSI⟩
  ihave H := (rd main_v1 _) $$ [Hv HSI]
  · isplitl [Hv] <;> iassumption
  icases H with ⟨%hv, HSI⟩
  imod (Pipeline.unscopedSems0_read (X := unscopedSems0 c) (c := c) fupd_intro s') $$ [Hu HSI] with H
  · isplitl [Hu] <;> iassumption
  icases H with ⟨%hs, HSI⟩
  imodintro
  isplitr; · ipureintro; exact ⟨⟨hx, hv⟩, hs⟩
  iexact HSI

/-! ## The run -/

set_option maxRecDepth 100000 in
/-- For any float values, from any memory with every semaphore at zero: every fair run of the program on the eight devices
    ends, with each device's argument as it was, its result at `Out`, and every semaphore at zero. -/
theorem run_main : θ_run (defs (F := F)) (onTc (τ := τ) (main (F := F))) ⟨m, fun _ => 0, ρ⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ w => w.elim0) (hpf := fun _ k => k.elim0)
    (X := start m) (Y := result m) (Z := fun _ => iprop(emp))
    (hX := start_intro m ρ) (hin := phi0_intro m) (hout := phi1_exit m)
    (QY := fun c s => Final m c s ∧ ∀ sm : SemLoc sig, sm.isScoped .tc = false → s.sem ((c.tc : Thread nD τ), sm) = 0)
    (hY := read_final m)
    (hQ := fun _ h hs => ⟨fun c => (h c).2.2.1, sem_eq_zero hs fun c => (h c).2.2.2⟩)

end Cert.AllReduce

end
-- ==== Proof.Value.lean ====
/-
The value: at the ideal instance every device's result is the reference's, the sum over the two blocks of the argument.
-/
module

public import proofs.«01_k».proof.Proof.Run
public import proofs.«01_k».proof.Proof.Gen.ReferenceIdeal.Run
public import Idealize.ShloMosaic.Lib.Pointwise.Reduce
public import Idealize.ShloMosaic.Lib.Pipeline.Value
public import Idealize.ShloMosaic.Lib.Layout
public import Idealize.ShloMosaic.PureOps.Ideal
public import Idealize.ShloMosaic.PureOps.Ideal.Laws

@[expose] public section

noncomputable section

namespace Cert.AllReduce

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

/-- The shape of the whole argument. -/
abbrev S4096x512 : Shape := Cert.ReferenceIdeal.S4096x512
/-- The same in its two blocks. -/
abbrev S2x2048x512 : Shape := Cert.ReferenceIdeal.S2x2048x512

/-- Index `i` of block `y` in the whole argument. -/
def inWhole (y : Fin 2) (i : S2048x512.Idx) : S4096x512.Idx :=
  ix2 ⟨y.val * 2048 + (i 0).val, by have h : (i 0).val < 2048 := (i 0).isLt; omega⟩ ⟨(i 1).val, (i 1).isLt⟩

/-- The block of the argument a device holds: its coordinate along y. -/
def yOf (c : Dev nD) : Fin 2 := ⟨c.val / 2 % 2, Nat.mod_lt _ (by decide)⟩

/-! ## The reference -/

/-- The reference's result at an index: the two blocks' elements there, added. -/
theorem ref_value (x : S4096x512.Idx → EReal) (hc : S4096x512.ShapeCasts S2x2048x512)
    (hr : S2x2048x512.ReducesTo [0] Cert.ReferenceIdeal.S2048x512) (hn : 0 < Cert.ReferenceIdeal.S_.numel) (hb : FTy.bits .bf16 < FTy.bits .f32)
    (i : S2048x512.Idx) :
    truncf (F := Ideal) .bf16 (Host.reduceAdd (F := Ideal) (φ := .f32) (shapeCast S2x2048x512 x hc) (constant (F := Ideal) Cert.ReferenceIdeal.S_ .f32 0x00000000#32) hr hn) hb i
      = x (inWhole 0 i) + x (inWhole 1 i) := by
  show Ideal.hostReduceAdd hr (shapeCast S2x2048x512 x hc) (Ideal.ofBits .f32 0x00000000#32) i = _
  rw [Ideal.hostReduceAdd_r3_a0, Ideal.ofBits_zero_f32, zero_add, Fin.sum_univ_two]
  have hx (y : Fin 2) (a : Fin 2048) (b : Fin 512) (h0 : a.val = (i 0).val) (h1 : b.val = (i 1).val) :
      shapeCast S2x2048x512 x hc (ix3 y a b) = x (inWhole y i) := by
    refine shapeCast_apply x hc _ _ ?_
    rw [Shape.rowMajor_val_two, Shape.rowMajor_val_three]
    show (y.val * 2048 + (i 0).val) * 512 + (i 1).val = (y.val * 2048 + a.val) * 512 + b.val
    rw [h0, h1]
  exact congrArg₂ (· + ·) (hx 0 _ _ rfl rfl) (hx 1 _ _ rfl rfl)

/-! ## The kernel -/

variable (m : (ℓ : Loc nD τ sig) → Buf (Elt Ideal) ℓ)

/-- What a device's argument holds. -/
def argOf (c : Dev nD) : S2048x512.Idx → EReal := m ((c.tc : Thread nD τ).loc main_arg0)

/-- A device's own quarter, rounded, at the place of `i`: the argument at `i`. -/
theorem raw_value (c : Dev nD) (i : S2048x512.Idx) (h : blk 0 c = bandOf i) :
    (Raw m c (inBand i) : EReal) = argOf m c i := by
  unfold Raw k0_pay1
  rw [shapeCast_self]
  show argOf m c ((qRect 0 c).emb (inBand i)) = _
  rw [emb_inBand 0 c i h]

/-- The y peer has the same quarter. -/
theorem blk_yP : ∀ c : Dev nD, blk 0 (yP c) = blk 0 c := by decide +kernel
/-- The y peer has the other block. -/
theorem yOf_yP : ∀ c : Dev nD, yOf (yP c) = 1 - yOf c := by decide +kernel

/-- The result at `i`: the arguments at `i` of the device whose sum it is and of its y peer, added. -/
theorem out_value (c : Dev nD) (i : S2048x512.Idx) :
    (Out m c i : EReal) = argOf m (qDev (whichQ c (bandOf i)) c) i + argOf m (yP (qDev (whichQ c (bandOf i)) c)) i := by
  have h0 : blk 0 (qDev (whichQ c (bandOf i)) c) = bandOf i := (blk_qDev _ c).trans (blk_whichQ c _)
  rw [← raw_value m _ i h0, ← raw_value m (yP _) i ((blk_yP _).trans h0)]
  rfl

/-! ## Both -/

/-- A device's block of the whole argument, at an index. -/
theorem block_value (c : Dev nD) (x : S4096x512.Idx → EReal) (i : S2048x512.Idx) :
    Layout.blockN ⟨2, ![2048, 512]⟩ ⟨2, ![4096, 512]⟩ (Layout.meshBlock [2, 2, 2] ![[1], []] c) x (by decide) i = x (inWhole (yOf c) i) := by
  rw [Layout.blockN_apply]
  refine congrArg x (funext fun a => Fin.ext ?_)
  rw [Layout.TilesN.idx_val]
  have hy : ∀ c : Dev nD, Layout.meshLin [2, 2, 2] c.val [1] = (yOf c).val := by decide +kernel
  match a with
  | 0 =>
    show Layout.meshLin [2, 2, 2] c.val [1] * 2048 + (i 0).val = (yOf c).val * 2048 + (i 0).val
    rw [hy]
  | 1 =>
    show 0 * 512 + (i 1).val = (i 1).val
    omega

/-- When every device's argument is its block of the whole argument, every device's result is the sum of the two blocks. -/
theorem out_sum (x : S4096x512.Idx → EReal)
    (hm : ∀ c : Dev nD, m ((c.tc : Thread nD τ).loc main_arg0) = Layout.blockN ⟨2, ![2048, 512]⟩ ⟨2, ![4096, 512]⟩ (Layout.meshBlock [2, 2, 2] ![[1], []] c) x)
    (c : Dev nD) (i : S2048x512.Idx) : (Out m c i : EReal) = x (inWhole 0 i) + x (inWhole 1 i) := by
  have ha (d : Dev nD) : argOf m d i = x (inWhole (yOf d) i) := (congrFun (hm d) i).trans (block_value d x i)
  rw [out_value, ha, ha, yOf_yP]
  have h2 : ∀ y : Fin 2, y = 0 ∨ y = 1 := by decide
  rcases h2 (yOf (qDev (whichQ c (bandOf i)) c)) with h | h
  · rw [h]; rfl
  · rw [h]; exact add_comm _ _

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program at the device's floats: it runs, its arguments end unchanged, every semaphore at zero. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- The same at the ideal floats. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- The reference has no semaphore. -/
theorem frame_reference : Cert.quiescent_ReferenceIdeal := fun m ρ _ =>
  (θ_run Cert.ReferenceIdeal.defs _ _).mono (fun r h => ⟨fun c => (h c).2, funext fun g => nomatch g⟩) (Cert.ReferenceIdeal.Value.run m ρ)

/-- Every device's result is the reference's. -/
theorem value : Cert.algebraic_KernelIdeal_ReferenceIdeal := fun m ρ m' ρ' _ hm =>
  ⟨_, (θ_run Cert.KernelIdeal.defs _ _).mono (fun r h c => ⟨(h.1 c).2.trans (funext fun i =>
        (Cert.AllReduce.out_sum m _ hm c i).trans (Cert.AllReduce.ref_value _ _ _ _ _ i).symm), (h.1 c).1⟩)
      (Cert.AllReduce.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
